-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![8, 256, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x256 : Shape := ⟨3, ![1, 256, 256]⟩
abbrev S256x256 : Shape := ⟨2, ![256, 256]⟩
abbrev S8x32x256 : Shape := ⟨3, ![8, 32, 256]⟩
abbrev S7 : Shape := ⟨1, ![7]⟩
abbrev S_ : Shape := ⟨0, ![]⟩
abbrev S1 : Shape := ⟨1, ![1]⟩
abbrev S1x32x256 : Shape := ⟨3, ![1, 32, 256]⟩
abbrev S32x256 : Shape := ⟨2, ![32, 256]⟩

abbrev nBuf : Space → Nat
  | .hbm => 2
  | .vmem => 5
  | .smem => 0
  | _ => 0

abbrev bufTy : (tb : Table) → Fin (tcTables nBuf tb) → BufTy
  | .hbm, ⟨0, _⟩ => ⟨S1x256x256, .bf16⟩
  | .hbm, ⟨1, _⟩ => ⟨S256x256, .f32⟩
  | .local _ .vmem, ⟨0, _⟩ => ⟨S1x256x256, .bf16⟩
  | .local _ .vmem, ⟨1, _⟩ => ⟨S256x256, .f32⟩
  | .local _ .vmem, ⟨2, _⟩ => ⟨S256x256, .bf16⟩
  | .local _ .vmem, ⟨3, _⟩ => ⟨S8x32x256, .bf16⟩
  | .local _ .vmem, ⟨4, _⟩ => ⟨S8x32x256, .bf16⟩
  | _, _ => ⟨S1x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v9 : BitVec 32 := Scalar.addi v2 c1_i32_4
  let c8_i32_5 : BitVec 32 := 8#32
  let v10 : BitVec 32 := Scalar.remsi v9 c8_i32_5
  let c1_i32_7 : BitVec 32 := 1#32
  let v11 : BitVec 32 := Scalar.muli v10 c1_i32_7
  let v12 : BitVec 32 := Scalar.addi c0_i32 v11
  v12.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.addi v2 c2_i32
  let c8_i32_8 : BitVec 32 := 8#32
  let v14 : BitVec 32 := Scalar.remsi v13 c8_i32_8
  let c1_i32_10 : BitVec 32 := 1#32
  let v15 : BitVec 32 := Scalar.muli v14 c1_i32_10
  let v16 : BitVec 32 := Scalar.addi c0_i32_11 v15
  v16.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v17 : BitVec 32 := Scalar.addi v2 c3_i32
  let c8_i32_12 : BitVec 32 := 8#32
  let v18 : BitVec 32 := Scalar.remsi v17 c8_i32_12
  let c1_i32_14 : BitVec 32 := 1#32
  let v19 : BitVec 32 := Scalar.muli v18 c1_i32_14
  let v20 : BitVec 32 := Scalar.addi c0_i32_15 v19
  v20.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v21 : BitVec 32 := Scalar.addi v2 c4_i32
  let c8_i32_16 : BitVec 32 := 8#32
  let v22 : BitVec 32 := Scalar.remsi v21 c8_i32_16
  let c1_i32_18 : BitVec 32 := 1#32
  let v23 : BitVec 32 := Scalar.muli v22 c1_i32_18
  let v24 : BitVec 32 := Scalar.addi c0_i32_19 v23
  v24.toNat
def k0_dev5 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v25 : BitVec 32 := Scalar.addi v2 c5_i32
  let c8_i32_20 : BitVec 32 := 8#32
  let v26 : BitVec 32 := Scalar.remsi v25 c8_i32_20
  let c1_i32_22 : BitVec 32 := 1#32
  let v27 : BitVec 32 := Scalar.muli v26 c1_i32_22
  let v28 : BitVec 32 := Scalar.addi c0_i32_23 v27
  v28.toNat
def k0_dev6 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v29 : BitVec 32 := Scalar.addi v2 c6_i32
  let c8_i32_24 : BitVec 32 := 8#32
  let v30 : BitVec 32 := Scalar.remsi v29 c8_i32_24
  let c1_i32_26 : BitVec 32 := 1#32
  let v31 : BitVec 32 := Scalar.muli v30 c1_i32_26
  let v32 : BitVec 32 := Scalar.addi c0_i32_27 v31
  v32.toNat
def k0_dev7 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v33 : BitVec 32 := Scalar.addi v2 c7_i32
  let c8_i32_28 : BitVec 32 := 8#32
  let v34 : BitVec 32 := Scalar.remsi v33 c8_i32_28
  let c1_i32_30 : BitVec 32 := 1#32
  let v35 : BitVec 32 := Scalar.muli v34 c1_i32_30
  let v36 : BitVec 32 := Scalar.addi c0_i32_31 v35
  v36.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_39 : BitVec 32 := 0#32
  let c0_i32_40 : BitVec 32 := 0#32
  ![v2.toNat, 0, 0]
def k0_off2 (d0 : Dev nD) (c1_i32_33 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.addi v2 c1_i32_33
  let c8_i32_34 : BitVec 32 := 8#32
  let v38 : BitVec 32 := Scalar.remsi v37 c8_i32_34
  let c32_i32 : BitVec 32 := 32#32
  let v39 : BitVec 32 := Scalar.muli v38 c32_i32
  let c0_i32_41 : BitVec 32 := 0#32
  ![v39.toNat, 0]
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v37 : BitVec 32 := Scalar.addi v2 c1_i32_33
  let c8_i32_34 : BitVec 32 := 8#32
  let v38 : BitVec 32 := Scalar.remsi v37 c8_i32_34
  let c1_i32_37 : BitVec 32 := 1#32
  let v40 : BitVec 32 := Scalar.muli v38 c1_i32_37
  let v41 : BitVec 32 := Scalar.addi c0_i32_38 v40
  v41.toNat
def k0_dev9 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v49 : BitVec 32 := Scalar.addi v2 c2_i32_42
  let c8_i32_43 : BitVec 32 := 8#32
  let v50 : BitVec 32 := Scalar.remsi v49 c8_i32_43
  let c1_i32_47 : BitVec 32 := 1#32
  let v52 : BitVec 32 := Scalar.muli v50 c1_i32_47
  let v53 : BitVec 32 := Scalar.addi c0_i32_48 v52
  v53.toNat
def k0_dev10 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v61 : BitVec 32 := Scalar.addi v2 c3_i32_52
  let c8_i32_53 : BitVec 32 := 8#32
  let v62 : BitVec 32 := Scalar.remsi v61 c8_i32_53
  let c1_i32_57 : BitVec 32 := 1#32
  let v64 : BitVec 32 := Scalar.muli v62 c1_i32_57
  let v65 : BitVec 32 := Scalar.addi c0_i32_58 v64
  v65.toNat
def k0_dev11 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_62 : BitVec 32 := 4#32
  let v73 : BitVec 32 := Scalar.addi v2 c4_i32_62
  let c8_i32_63 : BitVec 32 := 8#32
  let v74 : BitVec 32 := Scalar.remsi v73 c8_i32_63
  let c1_i32_67 : BitVec 32 := 1#32
  let v76 : BitVec 32 := Scalar.muli v74 c1_i32_67
  let v77 : BitVec 32 := Scalar.addi c0_i32_68 v76
  v77.toNat
def k0_dev12 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_72 : BitVec 32 := 5#32
  let v85 : BitVec 32 := Scalar.addi v2 c5_i32_72
  let c8_i32_73 : BitVec 32 := 8#32
  let v86 : BitVec 32 := Scalar.remsi v85 c8_i32_73
  let c1_i32_77 : BitVec 32 := 1#32
  let v88 : BitVec 32 := Scalar.muli v86 c1_i32_77
  let v89 : BitVec 32 := Scalar.addi c0_i32_78 v88
  v89.toNat
def k0_dev13 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_82 : BitVec 32 := 6#32
  let v97 : BitVec 32 := Scalar.addi v2 c6_i32_82
  let c8_i32_83 : BitVec 32 := 8#32
  let v98 : BitVec 32 := Scalar.remsi v97 c8_i32_83
  let c1_i32_87 : BitVec 32 := 1#32
  let v100 : BitVec 32 := Scalar.muli v98 c1_i32_87
  let v101 : BitVec 32 := Scalar.addi c0_i32_88 v100
  v101.toNat
def k0_dev14 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_92 : BitVec 32 := 7#32
  let v109 : BitVec 32 := Scalar.addi v2 c7_i32_92
  let c8_i32_93 : BitVec 32 := 8#32
  let v110 : BitVec 32 := Scalar.remsi v109 c8_i32_93
  let c1_i32_97 : BitVec 32 := 1#32
  let v112 : BitVec 32 := Scalar.muli v110 c1_i32_97
  let v113 : BitVec 32 := Scalar.addi c0_i32_98 v112
  v113.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_102 : BitVec 32 := 32#32
  let v121 : BitVec 32 := Scalar.muli v2 c32_i32_102
  let v122 : Index := Scalar.indexCast v121
  let c0_103 : Index := 0#32
  ![v122.toNat, 0]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v125 : Index := Scalar.indexCast v2
  let c0_104 : Index := 0#32
  let c0_105 : Index := 0#32
  ![v125.toNat, 0, 0]
def k0_dev15 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_202 : BitVec 32 := 1#32
  let v222 : BitVec 32 := Scalar.addi v2 c1_i32_202
  let c8_i32_203 : BitVec 32 := 8#32
  let v223 : BitVec 32 := Scalar.remsi v222 c8_i32_203
  let c1_i32_206 : BitVec 32 := 1#32
  let v224 : BitVec 32 := Scalar.muli v223 c1_i32_206
  let v225 : BitVec 32 := Scalar.addi c0_i32_207 v224
  v225.toNat
def k0_dev16 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_212 : BitVec 32 := 2#32
  let v234 : BitVec 32 := Scalar.addi v2 c2_i32_212
  let c8_i32_213 : BitVec 32 := 8#32
  let v235 : BitVec 32 := Scalar.remsi v234 c8_i32_213
  let c1_i32_216 : BitVec 32 := 1#32
  let v236 : BitVec 32 := Scalar.muli v235 c1_i32_216
  let v237 : BitVec 32 := Scalar.addi c0_i32_217 v236
  v237.toNat
def k0_dev17 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_222 : BitVec 32 := 3#32
  let v246 : BitVec 32 := Scalar.addi v2 c3_i32_222
  let c8_i32_223 : BitVec 32 := 8#32
  let v247 : BitVec 32 := Scalar.remsi v246 c8_i32_223
  let c1_i32_226 : BitVec 32 := 1#32
  let v248 : BitVec 32 := Scalar.muli v247 c1_i32_226
  let v249 : BitVec 32 := Scalar.addi c0_i32_227 v248
  v249.toNat
def k0_dev18 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_232 : BitVec 32 := 4#32
  let v258 : BitVec 32 := Scalar.addi v2 c4_i32_232
  let c8_i32_233 : BitVec 32 := 8#32
  let v259 : BitVec 32 := Scalar.remsi v258 c8_i32_233
  let c1_i32_236 : BitVec 32 := 1#32
  let v260 : BitVec 32 := Scalar.muli v259 c1_i32_236
  let v261 : BitVec 32 := Scalar.addi c0_i32_237 v260
  v261.toNat
def k0_dev19 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_242 : BitVec 32 := 5#32
  let v270 : BitVec 32 := Scalar.addi v2 c5_i32_242
  let c8_i32_243 : BitVec 32 := 8#32
  let v271 : BitVec 32 := Scalar.remsi v270 c8_i32_243
  let c1_i32_246 : BitVec 32 := 1#32
  let v272 : BitVec 32 := Scalar.muli v271 c1_i32_246
  let v273 : BitVec 32 := Scalar.addi c0_i32_247 v272
  v273.toNat
def k0_dev20 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_252 : BitVec 32 := 6#32
  let v282 : BitVec 32 := Scalar.addi v2 c6_i32_252
  let c8_i32_253 : BitVec 32 := 8#32
  let v283 : BitVec 32 := Scalar.remsi v282 c8_i32_253
  let c1_i32_256 : BitVec 32 := 1#32
  let v284 : BitVec 32 := Scalar.muli v283 c1_i32_256
  let v285 : BitVec 32 := Scalar.addi c0_i32_257 v284
  v285.toNat
def k0_dev21 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_262 : BitVec 32 := 7#32
  let v294 : BitVec 32 := Scalar.addi v2 c7_i32_262
  let c8_i32_263 : BitVec 32 := 8#32
  let v295 : BitVec 32 := Scalar.remsi v294 c8_i32_263
  let c1_i32_266 : BitVec 32 := 1#32
  let v296 : BitVec 32 := Scalar.muli v295 c1_i32_266
  let v297 : BitVec 32 := Scalar.addi c0_i32_267 v296
  v297.toNat
abbrev stage0_0 : Fin 1 → Memref sig .tc .vmem S1x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x256x256 : Shape := ⟨3, ![8, 256, 256]⟩
abbrev S_ : Shape := ⟨0, ![]⟩
abbrev S256x256 : Shape := ⟨2, ![256, 256]⟩

abbrev nBuf : Space → Nat
  | .hbm => 6
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .f32⟩
  | .hbm, ⟨2, _⟩ => ⟨S_, .f32⟩
  | .hbm, ⟨3, _⟩ => ⟨S256x256, .f32⟩
  | .hbm, ⟨4, _⟩ => ⟨S256x256, .bf16⟩
  | .hbm, ⟨5, _⟩ => ⟨S256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Common.lean ====
/-
# 01_k: peers, cells and views of the all-to-all all-reduce

The names the whole proof uses: the peer at each distance, the barrier cell and the twenty-eight transfer cells of a device,
the resource algebra, the memrefs of the five on-chip buffers, and where a row (or a block of rows) of a buffer sits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Lib.Ring
public import Idealize.ShloMosaic.Lib.ShareLeaves
public import Idealize.ShloMosaic.Lib.ViewIndex

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's copy, and the protocol's with duty names `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Peers -/

/-- The device `k + 1` places after `c`. -/
def nx (k : Fin 7) (c : Dev nD) : Dev nD := ⟨(c.val + (k.val + 1)) % 8, Nat.mod_lt _ (by decide)⟩
/-- The device `k + 1` places before `c`. -/
def pv (k : Fin 7) (c : Dev nD) : Dev nD := ⟨(c.val + (7 - k.val)) % 8, Nat.mod_lt _ (by decide)⟩

theorem pv_nx (k : Fin 7) (c : Dev nD) : pv k (nx k c) = c := by revert k c; decide
theorem nx_pv (k : Fin 7) (c : Dev nD) : nx k (pv k c) = c := by revert k c; decide
/-- Going back by the complementary distance is going forward. -/
theorem pv_rev (k : Fin 7) (c : Dev nD) : pv (Fin.rev k) c = nx k c := by revert k c; decide

/-- Moving every device forward by one distance permutes the devices. -/
def shift (k : Fin 7) : Dev nD ≃ Dev nD := ⟨nx k, pv k, pv_nx k, nx_pv k⟩

theorem nx_injective (c : Dev nD) : Function.Injective (fun k => nx k c) := by revert c; decide
theorem pv_injective (c : Dev nD) : Function.Injective (fun k => pv k c) := by revert c; decide
theorem erase_nx (c : Dev nD) : Finset.univ.erase c = Finset.univ.map ⟨fun k => nx k c, nx_injective c⟩ := by revert c; decide
theorem erase_pv (c : Dev nD) : Finset.univ.erase c = Finset.univ.map ⟨fun k => pv k c, pv_injective c⟩ := by revert c; decide

/-- A family over the devices is the member at `c` and those at the devices after it; -/
theorem split_nx {M : Type} [URA M] (c : Dev nD) (Φ : Dev nD → sProp M) :
    bigSep Finset.univ Φ = iprop(Φ c ∗ bigSep Finset.univ fun k : Fin 7 => Φ (nx k c)) := by
  rw [bigSep_univ_split c, erase_nx, bigSep_map]; rfl
/-- and the member at `c` and those at the devices before it. -/
theorem split_pv {M : Type} [URA M] (c : Dev nD) (Φ : Dev nD → sProp M) :
    bigSep Finset.univ Φ = iprop(Φ c ∗ bigSep Finset.univ fun k : Fin 7 => Φ (pv k c)) := by
  rw [bigSep_univ_split c, erase_pv, bigSep_map]; rfl

/-! ## Semaphores and cells -/

/-- The barrier semaphore the eight devices share a number of. -/
abbrev barS : Sem sig := (SemArray.scalar (sig.barrier 0 rfl) : Sems sig S_).sem
set_option backward.proofsInPublic true in
/-- The transfer semaphores: kind 0 and 1 are the first exchange's send and receive, 2 and 3 the second's. -/
def dsem (κ : Fin 4) (k : Fin 7) : DmaSem sig := (⟨2 + 7 * κ.val + k.val, by omega⟩ : Fin 30)

abbrev osem (p : Fin 4 × Fin 7) : SemLoc sig := .dma (dsem p.1 p.2)

/-- A device's protocol cells: the barrier, then the transfer cells. -/
abbrev CK : Type := Unit ⊕ (Fin 4 × Fin 7)
abbrev csem : CK → SemLoc sig := Sum.elim (fun _ => .reg barS) osem
abbrev kcell (ck : Dev nD × CK) : GSem nD τ sig := ((ck.1 : Thread nD τ), csem ck.2)
abbrev barC (c : Dev nD) : GSem nD τ sig := ((c : Thread nD τ), .reg barS)
abbrev xC (c : Dev nD) (κ : Fin 4) (k : Fin 7) : GSem nD τ sig := ((c : Thread nD τ), .dma (dsem κ k))

/-- Which protocol cell a semaphore is, if any. -/
def kindOf : SemLoc sig → Option CK
  | .reg _ => some (.inl ())
  | .dma q => if h : 2 ≤ q.val ∧ q.val < 30 then
      some (.inr (⟨(q.val - 2) / 7, by omega⟩, ⟨(q.val - 2) % 7, Nat.mod_lt _ (by decide)⟩)) else none

theorem kindOf_bar : kindOf (.reg barS) = some (.inl ()) := rfl
theorem kindOf_dsem (κ : Fin 4) (k : Fin 7) : kindOf (.dma (dsem κ k)) = some (.inr (κ, k)) := by revert κ k; decide
theorem kindOf_csem (x : CK) : kindOf (csem x) = some x := by
  rcases x with ⟨⟩ | ⟨κ, k⟩
  · rfl
  · exact kindOf_dsem κ k

theorem kcell_injective : Function.Injective (kcell : Dev nD × CK → GSem nD τ sig) := by
  rintro ⟨c, x⟩ ⟨c', x'⟩ h
  have h1 : c = c' := congrArg (fun g : GSem nD τ sig => g.1.1) h
  have h2 : kindOf (csem x) = kindOf (csem x') := congrArg (fun g : GSem nD τ sig => kindOf g.2) h
  rw [kindOf_csem, kindOf_csem] at h2
  exact Prod.ext h1 (Option.some.inj h2)

/-! ## Memrefs -/

abbrev xM : Memref sig .tc .vmem S1x256x256 .bf16 := Memref.whole cc0_stg0_0
abbrev oM : Memref sig .tc .vmem S256x256 .f32 := Memref.whole cc0_stg1_0
abbrev stM : Memref sig .tc .vmem S256x256 .bf16 := Memref.whole cc0_scratch0
abbrev rsM : Memref sig .tc .vmem S8x32x256 .bf16 := Memref.whole cc0_scratch1
abbrev agM : Memref sig .tc .vmem S8x32x256 .bf16 := Memref.whole cc0_scratch2

/-- Thirty-two rows of the staging buffer from the offsets `off`. -/
abbrev blkV (off : Fin 2 → ℕ) (h : ∀ a, off a + S32x256.size a ≤ S256x256.size a) : Memref sig .tc .vmem S32x256 .bf16 :=
  stM.slice (Rect.unit (s := S256x256) off S32x256.size h) (fun _ => rfl)
/-- One leading row of an exchange buffer, seen as a matrix. -/
abbrev rowV (M : Memref sig .tc .vmem S8x32x256 .bf16) (off : Fin 3 → ℕ) (h : ∀ a, off a + S1x32x256.size a ≤ S8x32x256.size a) :
    Memref sig .tc .vmem S32x256 .bf16 :=
  (M.slice (Rect.unit (s := S8x32x256) off S1x32x256.size h) (fun _ => rfl)).squeeze S32x256 squeezes_S1x32x256_S32x256

/-- The credit one transfer of a 32 × 256 block moves. -/
def N : ℕ := (rowV rsM (k0_off1 0) (k0_off1_inb 0)).view.dmaCredit
theorem N_pos : 0 < N := View.dmaCredit_pos _ (by decide)

theorem credit_rs (off h) : (rowV rsM off h).view.dmaCredit = N := rfl
theorem credit_ag (off h) : (rowV agM off h).view.dmaCredit = N := rfl
theorem credit_st (off h) : (blkV off h).view.dmaCredit = N := rfl

/-! ## Where rows and blocks sit -/

/-- The elements of leading row `p` of an exchange buffer. -/
def rowSet (p : Dev nD) : Finset S8x32x256.Idx := Finset.univ.filter fun i => (i 0).val = p.val
/-- The elements of the `p`-th thirty-two rows of the staging buffer. -/
def blkSet (p : Dev nD) : Finset S256x256.Idx := Finset.univ.filter fun i => (i 0).val / 32 = p.val

theorem mem_rowSet {p : Dev nD} {i : S8x32x256.Idx} : i ∈ rowSet p ↔ (i 0).val = p.val := by simp [rowSet]
theorem mem_blkSet {p : Dev nD} {i : S256x256.Idx} : i ∈ blkSet p ↔ (i 0).val / 32 = p.val := by simp [blkSet]

theorem rowSet_disjoint (p p' : Dev nD) (h : p ≠ p') : Disjoint (rowSet p) (rowSet p') :=
  Finset.disjoint_left.mpr fun i hi hi' => h (Fin.ext ((mem_rowSet.mp hi).symm.trans (mem_rowSet.mp hi')))
theorem blkSet_disjoint (p p' : Dev nD) (h : p ≠ p') : Disjoint (blkSet p) (blkSet p') :=
  Finset.disjoint_left.mpr fun i hi hi' => h (Fin.ext ((mem_blkSet.mp hi).symm.trans (mem_blkSet.mp hi')))
theorem rowSet_cover : Finset.univ.biUnion rowSet = Finset.univ := by
  ext i; simp only [Finset.mem_biUnion, Finset.mem_univ, true_and, iff_true]
  exact ⟨⟨(i 0).val, (i 0).isLt⟩, mem_rowSet.mpr rfl⟩
theorem blkSet_cover : Finset.univ.biUnion blkSet = Finset.univ := by
  ext i; simp only [Finset.mem_biUnion, Finset.mem_univ, true_and, iff_true]
  have h0 : (i 0).val < 256 := (i 0).isLt
  exact ⟨⟨(i 0).val / 32, by show _ < 8; omega⟩, mem_blkSet.mpr rfl⟩

theorem rowRect_set (p : Dev nD) (off : Fin 3 → ℕ) (h) (ho : off = ![p.val, 0, 0]) :
    (Rect.unit (s := S8x32x256) off S1x32x256.size h).set = rowSet p := by
  subst ho
  ext i
  rw [Rect.mem_set_unit, mem_rowSet]
  have h1 : (i 1).val < 32 := (i 1).isLt
  have h2 : (i 2).val < 256 := (i 2).isLt
  constructor
  · intro H
    have := H 0
    simp [S1x32x256] at this
    omega
  · intro H a
    fin_cases a
    · simp [S1x32x256]; omega
    · simp [S1x32x256]; omega
    · simp [S1x32x256]; omega

theorem blkRect_set (p : Dev nD) (off : Fin 2 → ℕ) (h) (ho : off = ![32 * p.val, 0]) :
    (Rect.unit (s := S256x256) off S32x256.size h).set = blkSet p := by
  subst ho
  ext i
  rw [Rect.mem_set_unit, mem_blkSet]
  have h1 : (i 1).val < 256 := (i 1).isLt
  constructor
  · intro H
    have := H 0
    simp [S32x256] at this
    omega
  · intro H a
    fin_cases a
    · simp [S32x256]; omega
    · simp [S32x256]; omega

theorem rs_set (p : Dev nD) (off h) (ho : off = ![p.val, 0, 0]) : (rowV rsM off h).view.set = rowSet p :=
  (View.set_reshape _ _).trans ((View.set_slice_whole _ _).trans (rowRect_set p off h ho))
theorem ag_set (p : Dev nD) (off h) (ho : off = ![p.val, 0, 0]) : (rowV agM off h).view.set = rowSet p :=
  (View.set_reshape _ _).trans ((View.set_slice_whole _ _).trans (rowRect_set p off h ho))
theorem blk_set (p : Dev nD) (off h) (ho : off = ![32 * p.val, 0]) : (blkV off h).view.set = blkSet p :=
  (View.set_slice_whole _ _).trans (blkRect_set p off h ho)

end Cert.AllReduce

end
-- ==== Proof.Contents.lean ====
/-
# 01_k: what the buffers hold

The contents each on-chip buffer has along the run, as functions of the launch memory, and what each transfer and each
store leaves on the elements it writes.
-/
module

public import proofs.«01_k».proof.Proof.Common

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The launch state: any memory, every counter zero. -/
def s₀ : MemSt nD τ sig (Elt F) := ⟨m, fun _ => 0, ρ⟩

/-- Device `c`'s block of `x`, as the launch stages it. -/
def xstg (c : Dev nD) : (cc0_stg0_0 : Ref sig .tc).ty.Contents (Elt F) :=
  (win0_0.blk (0 : Fin 1)).view.read (Elt F) ((s₀ m ρ).mem ((c : Thread nD τ).loc main_arg0))

/-- The staging buffer: device `c`'s 256 × 256 block. -/
def stageC (c : Dev nD) : S256x256.Idx → Elt F .bf16 := k0_pay2 (xstg m ρ c)

/-- Element `(p, a, b)` of the first exchange's buffer sits at `(32 p + a, b)` of a 256 × 256 block. -/
def tileIx (p : Dev nD) (i : S8x32x256.Idx) : S256x256.Idx := fun
  | ⟨0, _⟩ => ⟨32 * p.val + (i 1).val, by
      have h1 : (i 1).val < 32 := (i 1).isLt
      have hp : p.val < 8 := p.isLt
      show _ < 256; omega⟩
  | ⟨1, _⟩ => ⟨(i 2).val, (i 2).isLt⟩

/-- The first exchange's buffer on device `p` when all has arrived: row `r` holds rows `32 p …` of device `r`'s block. -/
def rsC (p : Dev nD) : S8x32x256.Idx → Elt F .bf16 := fun i => stageC m ρ ⟨(i 0).val, (i 0).isLt⟩ (tileIx p i)

/-- Element `(r, a, b)` moved to leading row zero. -/
def headIx (i : S8x32x256.Idx) : S1x32x256.Idx := fun
  | ⟨0, _⟩ => ⟨0, Nat.one_pos⟩
  | ⟨1, _⟩ => ⟨(i 1).val, (i 1).isLt⟩
  | ⟨2, _⟩ => ⟨(i 2).val, (i 2).isLt⟩

/-- The second exchange's buffer when all has arrived, the same on every device: row `r` holds device `r`'s sum. -/
def agC : S8x32x256.Idx → Elt F .bf16 := fun i => k0_pay4 (rsC m ρ ⟨(i 0).val, (i 0).isLt⟩) (headIx i)

/-- The result, the same on every device. -/
def outC : S256x256.Idx → Elt F .f32 := k0_pay1 (agC m ρ)

/-- Reading `rsC` at an element named by its coordinates. -/
theorem rsC_of (p q : Dev nD) (i : S8x32x256.Idx) (j : S256x256.Idx) (h0 : (i 0).val = q.val) (h1 : (j 0).val = 32 * p.val + (i 1).val)
    (h2 : (j 1).val = (i 2).val) : stageC m ρ q j = rsC m ρ p i := by
  have e : (⟨(i 0).val, (i 0).isLt⟩ : Dev nD) = q := Fin.ext h0
  unfold rsC
  rw [e]
  exact congrArg _ (Shape.idx_ext₂ (n := ![256, 256]) h1 h2)

/-- Reading `agC` at an element named by its coordinates. -/
theorem agC_of (q : Dev nD) (i : S8x32x256.Idx) (j : S1x32x256.Idx) (h0 : (i 0).val = q.val) (h1 : (j 1).val = (i 1).val)
    (h2 : (j 2).val = (i 2).val) : k0_pay4 (rsC m ρ q) j = agC m ρ i := by
  have e : (⟨(i 0).val, (i 0).isLt⟩ : Dev nD) = q := Fin.ext h0
  have hj : (j 0).val < 1 := (j 0).isLt
  unfold agC
  rw [e]
  exact congrArg _ (Shape.idx3_ext (d := ![1, 32, 256]) (by show (j 0).val = 0; omega) h1 h2)

/-! ## Indices under the views -/

/-- The element under `x` of a row view is `(p, x 0, x 1)`. -/
theorem rs_emb (p : Dev nD) (off h) (ho : off = ![p.val, 0, 0]) (x : S32x256.Idx) :
    (((rowV rsM off h).view.emb x : S8x32x256.Idx) 0).val = p.val ∧ (((rowV rsM off h).view.emb x : S8x32x256.Idx) 1).val = (x 0).val
      ∧ (((rowV rsM off h).view.emb x : S8x32x256.Idx) 2).val = (x 1).val := by
  subst ho
  have e : Shape.reshapeEquiv (s := S1x32x256) (s' := S32x256) squeezes_S1x32x256_S32x256.numel_eq x = Fin.cons ⟨0, Nat.one_pos⟩ x :=
    Shape.reshapeEquiv_cons_one (d := ![32, 256]) _ x
  have e' : (rowV rsM ![p.val, 0, 0] h).view.emb x
      = (Rect.unit (s := S8x32x256) ![p.val, 0, 0] S1x32x256.size h).emb (Fin.cons ⟨0, Nat.one_pos⟩ x) :=
    congrArg (fun y : S1x32x256.Idx => (Rect.unit (s := S8x32x256) ![p.val, 0, 0] S1x32x256.size h).emb y) e
  rw [e']
  refine ⟨?_, ?_, ?_⟩
  · show p.val + 1 * 0 = _; omega
  · show 0 + 1 * (x 0).val = _; omega
  · show 0 + 1 * (x 1).val = _; omega

/-- The element under `x` of a block view is `(32 p + x 0, x 1)`. -/
theorem blk_emb (p : Dev nD) (off h) (ho : off = ![32 * p.val, 0]) (x : S32x256.Idx) :
    (((blkV off h).view.emb x : S256x256.Idx) 0).val = 32 * p.val + (x 0).val
      ∧ (((blkV off h).view.emb x : S256x256.Idx) 1).val = (x 1).val := by
  subst ho
  refine ⟨?_, ?_⟩
  · show 32 * p.val + 1 * (x 0).val = _; omega
  · show 0 + 1 * (x 1).val = _; omega

/-! ## What transfers and stores leave -/

/-- The transfer of block `p` of device `c`'s staging buffer into row `c` of device `p`'s first buffer leaves that row as
    `rsC p` has it. -/
theorem landed_rs (c p : Dev nD) (off h) (ho : off = ![c.val, 0, 0]) (off' h') (ho' : off' = ![32 * p.val, 0]) (fd : S8x32x256.Idx → Elt F .bf16) :
    ∀ i ∈ (rowV rsM off h).view.set,
      (rowV rsM off h).view.write (Elt F) fd ((blkV off' h').view.read (Elt F) (stageC m ρ c)) Finset.univ i = rsC m ρ p i := by
  intro i hi
  obtain ⟨x, -, rfl⟩ := Finset.mem_map.mp hi
  refine (View.write_emb_of_mem (v := (rowV rsM off h).view) fd _ (Finset.mem_univ x)).trans ?_
  obtain ⟨h0, h1, h2⟩ := rs_emb c off h ho x
  obtain ⟨b0, b1⟩ := blk_emb p off' h' ho' x
  exact rsC_of m ρ p c _ _ h0 (b0.trans (by rw [h1])) (b1.trans h2.symm)

/-- A transfer between the same row of two second buffers leaves what the source row held. -/
theorem landed_ag (off h) (fd f : S8x32x256.Idx → Elt F .bf16) :
    ∀ i ∈ (rowV agM off h).view.set,
      (rowV agM off h).view.write (Elt F) fd ((rowV agM off h).view.read (Elt F) f) Finset.univ i = f i := by
  intro i hi
  obtain ⟨x, -, rfl⟩ := Finset.mem_map.mp hi
  exact (View.write_emb_of_mem (v := (rowV agM off h).view) fd _ (Finset.mem_univ x)).trans rfl

abbrev rowR (off : Fin 3 → ℕ) (h : ∀ a, off a + S1x32x256.size a ≤ S8x32x256.size a) : Rect S8x32x256 :=
  Rect.unit (s := S8x32x256) off S1x32x256.size h
abbrev blkR (off : Fin 2 → ℕ) (h : ∀ a, off a + S32x256.size a ≤ S256x256.size a) : Rect S256x256 :=
  Rect.unit (s := S256x256) off S32x256.size h

/-- A 32 × 256 value with a leading unit axis put on, read at `x`. -/
theorem pay3_apply (v : Vec F S32x256 .bf16) (x : S1x32x256.Idx) : k0_pay3 v x = v (fun a => x a.succ) := by
  unfold k0_pay3
  refine (congrFun (shapeCast_self (s := S1x32x256) _ _) x).trans ?_
  exact shapeCast_addUnit_apply ![32, 256] v _ x

/-- Thirty-two rows of the staging buffer, read at `j`. -/
theorem readAt_blk (c : Dev nD) (off h) (ho : off = ![32 * c.val, 0]) (f : S256x256.Idx → Elt F .bf16) (j : S32x256.Idx) (i : S256x256.Idx)
    (h0 : (i 0).val = 32 * c.val + (j 0).val) (h1 : (i 1).val = (j 1).val) :
    (stM.view.readAt (Elt F) (blkR off h).toLoadRect f : Vec F S32x256 .bf16) j = f i := by
  subst ho
  refine (View.readAt_apply (v := stM.view) _ _ _).trans ?_
  refine congrArg f (Shape.idx_ext₂ (n := ![256, 256]) ?_ ?_)
  · rw [h0]; show 32 * c.val + 1 * (j 0).val = _; omega
  · rw [h1]; show 0 + 1 * (j 1).val = _; omega

/-- The store of device `c`'s own block leaves row `c` of its first buffer as `rsC c` has it. -/
theorem stored_rs (c : Dev nD) (off h) (ho : off = ![c.val, 0, 0]) (off' h') (ho' : off' = ![32 * c.val, 0]) (fd : S8x32x256.Idx → Elt F .bf16) :
    ∀ i ∈ rowSet c,
      (rsM.access (rowR off h) : View sig .tc _ _ _).write (Elt F) fd (k0_pay3 (stM.view.readAt (Elt F) (blkR off' h').toLoadRect (stageC m ρ c))) Finset.univ i
        = rsC m ρ c i := by
  intro i hi
  have H : ∀ y : S1x32x256.Idx, k0_pay3 (stM.view.readAt (Elt F) (blkR off' h').toLoadRect (stageC m ρ c)) y
      = stageC m ρ c (tileIx c (fun a => ⟨(y a).val, (y a).isLt.trans_le (by fin_cases a <;> decide)⟩ : S8x32x256.Idx)) := fun y =>
    (pay3_apply _ y).trans (readAt_blk c off' h' ho' _ _ _ rfl rfl)
  generalize k0_pay3 (stM.view.readAt (Elt F) (blkR off' h').toLoadRect (stageC m ρ c)) = w at H ⊢
  rw [← rowRect_set c off h ho, ← View.set_slice_whole cc0_scratch1] at hi
  obtain ⟨x, -, rfl⟩ := Finset.mem_map.mp hi
  refine (View.write_emb_of_mem (v := (rsM.access (rowR off h) : View sig .tc _ _ _)) fd _ (Finset.mem_univ x)).trans ((H x).trans ?_)
  subst ho
  have hx : (x 0).val < 1 := (x 0).isLt
  refine rsC_of m ρ c c _ _ ?_ ?_ ?_
  · show c.val + 1 * (x 0).val = c.val; omega
  · show 32 * c.val + (x 1).val = 32 * c.val + (0 + 1 * (x 1).val); omega
  · show (x 2).val = 0 + 1 * (x 2).val; omega

/-- The store of device `c`'s sum leaves row `c` of its second buffer as `agC` has it. -/
theorem stored_ag (c : Dev nD) (off h) (ho : off = ![c.val, 0, 0]) (fd : S8x32x256.Idx → Elt F .bf16) :
    ∀ i ∈ rowSet c,
      (agM.access (rowR off h) : View sig .tc _ _ _).write (Elt F) fd (k0_pay4 (rsC m ρ c)) Finset.univ i = agC m ρ i := by
  intro i hi
  rw [← rowRect_set c off h ho, ← View.set_slice_whole cc0_scratch2] at hi
  obtain ⟨x, -, rfl⟩ := Finset.mem_map.mp hi
  refine (View.write_emb_of_mem (v := (agM.access (rowR off h) : View sig .tc _ _ _)) fd _ (Finset.mem_univ x)).trans ?_
  subst ho
  have hx : (x 0).val < 1 := (x 0).isLt
  refine agC_of m ρ c _ x ?_ ?_ ?_
  · show c.val + 1 * (x 0).val = c.val; omega
  · show (x 1).val = 0 + 1 * (x 1).val; omega
  · show (x 2).val = 0 + 1 * (x 2).val; omega

end Cert.AllReduce

end
-- ==== Proof.Sched.lean ====
/-
# 01_k: the exchange's schedule, debts and levels

Every protocol cell has one round. A barrier cell's round has seven duties, one per peer: the peer's signal hands over the row
of each of the peer's two exchange buffers that this device will write. A transfer cell's round has one duty: a send cell's hands
the source back, a receive cell's hands over the row written. At launch a device owes every peer a barrier unit and the credits of
the two transfers into it.
-/
module

public import proofs.«01_k».proof.Proof.Contents

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Pieces of the buffers -/

/-- Row `p` of device `c`'s first exchange buffer, held in full at `f`. -/
def rsRow (c p : Dev nD) (f : S8x32x256.Idx → Elt F .bf16) : sProp 𝕄 :=
  ((c : Thread nD τ).loc cc0_scratch1) ↦[rowSet p]{fullShare} f
/-- Row `p` of device `c`'s second exchange buffer, held at the share `q`. -/
def agRow (c p : Dev nD) (q : PosShare TreeShare) (f : S8x32x256.Idx → Elt F .bf16) : sProp 𝕄 :=
  ((c : Thread nD τ).loc cc0_scratch2) ↦[rowSet p]{q} f
/-- Rows `32 p …` of device `c`'s staging buffer, held in full at the contents `f`. -/
def stBlk (c p : Dev nD) (f : S256x256.Idx → Elt F .bf16) : sProp 𝕄 :=
  ((c : Thread nD τ).loc cc0_scratch0) ↦[blkSet p]{fullShare} f

omit [FloatOps F] in
instance rsRow_storable (c p : Dev nD) (f) : BI.Storable (upEmb : UEmb _ 𝕄) (rsRow (F := F) c p f) := by unfold rsRow; infer_instance
omit [FloatOps F] in
instance agRow_storable (c p : Dev nD) (q) (f) : BI.Storable (upEmb : UEmb _ 𝕄) (agRow (F := F) c p q f) := by unfold agRow; infer_instance
omit [FloatOps F] in
instance stBlk_storable (c p : Dev nD) (f) : BI.Storable (upEmb : UEmb _ 𝕄) (stBlk (F := F) c p f) := by unfold stBlk; infer_instance

/-- The share of its own sum row a device lends its transfer at distance `k + 1`; eight shares make the whole. -/
def lend (i : Fin 8) : PosShare TreeShare := ShareLeaves.leaf 3 fullShare i

/-! ## The schedule -/

/-- What the peer at distance `k + 1` before `c` hands `c` with its signal: the rows `c` of its two exchange buffers. -/
def barPay (c : Dev nD) (k : Fin 7) : sProp 𝕄 :=
  iprop((∃ f, rsRow (pv k c) c f) ∗ ∃ f, agRow (pv k c) c fullShare f)

/-- What a transfer cell of `c` hands over: kind 0 the staged rows sent, 1 the row received, 2 the lent share of the sum row,
    3 the sum row received. -/
def xPay (c : Dev nD) (κ : Fin 4) (k : Fin 7) : sProp 𝕄 :=
  match κ with
  | 0 => stBlk c (nx k c) (stageC m ρ c)
  | 1 => rsRow c (pv k c) (rsC m ρ c)
  | 2 => agRow c c (lend k.castSucc) (agC m ρ)
  | 3 => agRow c (pv k c) fullShare (agC m ρ)

instance barPay_storable (c : Dev nD) (k) : BI.Storable (upEmb : UEmb _ 𝕄) (barPay (F := F) c k) := by unfold barPay; infer_instance
instance xPay_storable (c : Dev nD) (κ k) : BI.Storable (upEmb : UEmb _ 𝕄) (xPay (F := F) m ρ c κ k) := by
  unfold xPay; split <;> infer_instance

def dutiesOf : Option CK → Finset (Fin 7)
  | some (.inl _) => Finset.univ
  | some (.inr _) => {0}
  | none => ∅
def amountOf : Option CK → ℕ
  | some (.inl _) => 1
  | _ => N
def payOf (c : Dev nD) (d : Fin 7) : Option CK → sProp 𝕄
  | some (.inl _) => barPay c d
  | some (.inr (κ, k)) => xPay m ρ c κ k
  | none => iprop(emp)

/-- The schedule: round 0 only. -/
def Rd : Rounds.Schedule (GSem nD τ sig) (Fin 7) 𝕄 where
  duties g r := if r = 0 ∧ g.1.2 = .tc then dutiesOf (kindOf g.2) else ∅
  unitless _ := False
  amount g _ _ := amountOf (kindOf g.2)
  payload g _ d := payOf m ρ g.1.1 d (kindOf g.2)
  amount_pos g _ _ _ := by
    unfold amountOf; split
    · exact Nat.one_pos
    · exact N_pos

instance Rd_payload_storable (g : GSem nD τ sig) (r : ℕ) (d : Fin 7) :
    BI.Storable (upEmb : UEmb _ 𝕄) ((Rd (F := F) m ρ).payload g r d) := by
  show BI.Storable upEmb (payOf m ρ g.1.1 d (kindOf g.2))
  unfold payOf; split <;> infer_instance

section Sched
variable (c : Dev nD) (κ : Fin 4) (k : Fin 7)

theorem duties_bar : (Rd (F := F) m ρ).duties (barC c) 0 = Finset.univ := by
  dsimp only [Rd]; rw [if_pos ⟨rfl, rfl⟩, kindOf_bar]; rfl
theorem duties_x : (Rd (F := F) m ρ).duties (xC c κ k) 0 = {0} := by
  dsimp only [Rd]; rw [if_pos ⟨rfl, rfl⟩, kindOf_dsem]; rfl
theorem duties_later (g : GSem nD τ sig) : ∀ r, 0 + 1 ≤ r → (Rd (F := F) m ρ).duties g r = ∅ :=
  fun r hr => by dsimp only [Rd]; rw [if_neg fun h => by omega]
theorem amount_bar (d : Fin 7) : (Rd (F := F) m ρ).amount (barC c) 0 d = 1 := by dsimp only [Rd]; rw [kindOf_bar]; rfl
theorem amount_x (d : Fin 7) : (Rd (F := F) m ρ).amount (xC c κ k) 0 d = N := by dsimp only [Rd]; rw [kindOf_dsem]; rfl
theorem expect_bar : (Rd (F := F) m ρ).expect (barC c) 0 = 7 := by
  unfold Schedule.expect Schedule.amountOf
  rw [duties_bar, Finset.sum_congr rfl fun d _ => amount_bar m ρ c d, Finset.sum_const, Finset.card_univ, Fintype.card_fin, smul_eq_mul]
theorem expect_x : (Rd (F := F) m ρ).expect (xC c κ k) 0 = N := by
  unfold Schedule.expect Schedule.amountOf; rw [duties_x, Finset.sum_singleton, amount_x]
theorem payload_bar (d : Fin 7) : (Rd (F := F) m ρ).payload (barC c) 0 d = barPay c d := by dsimp only [Rd]; rw [kindOf_bar]; rfl
theorem payload_x (d : Fin 7) : (Rd (F := F) m ρ).payload (xC c κ k) 0 d = xPay m ρ c κ k := by dsimp only [Rd]; rw [kindOf_dsem]; rfl
theorem rest_bar : bigSep ((Rd (F := F) m ρ).duties (barC c) 0 \ ∅) (fun d => (Rd (F := F) m ρ).payload (barC c) 0 d)
    = bigSep Finset.univ fun k : Fin 7 => barPay c k := by
  rw [Finset.sdiff_empty, duties_bar]; exact bigSep_congr fun d _ => payload_bar m ρ c d
theorem rest_x : bigSep ((Rd (F := F) m ρ).duties (xC c κ k) 0 \ ∅) (fun d => (Rd (F := F) m ρ).payload (xC c κ k) 0 d) = xPay m ρ c κ k := by
  rw [Finset.sdiff_empty, duties_x, bigSep_singleton, payload_x]

end Sched

/-! ## What a device owes -/

/-- The payments of one family from distance `i + 1` on: `n` to each cell. -/
def ow (cf : Fin 7 → GSem nD τ sig) (n i : ℕ) : CellTallies nD τ sig Unit :=
  ∑ k ∈ Finset.univ.filter (fun k : Fin 7 => i ≤ k.val), tallyAt (cf k) () n

theorem ow_step (cf : Fin 7 → GSem nD τ sig) (n : ℕ) (k : Fin 7) : ow cf n k.val = ow cf n (k.val + 1) + tallyAt (cf k) () n := by
  have h : Finset.univ.filter (fun j : Fin 7 => k.val ≤ j.val) = insert k (Finset.univ.filter (fun j : Fin 7 => k.val + 1 ≤ j.val)) := by
    revert k; decide
  unfold ow
  rw [h, Finset.sum_insert (by simp), add_comm]

theorem ow_done (cf : Fin 7 → GSem nD τ sig) (n : ℕ) : ow cf n 7 = 0 := by
  unfold ow
  rw [show Finset.univ.filter (fun j : Fin 7 => 7 ≤ j.val) = ∅ by decide]; rfl

theorem ow_all (cf : Fin 7 → GSem nD τ sig) (n : ℕ) : ow cf n 0 = ∑ k : Fin 7, tallyAt (cf k) () n := by
  unfold ow
  rw [show Finset.univ.filter (fun j : Fin 7 => 0 ≤ j.val) = Finset.univ by decide]

theorem ow_pos {cf : Fin 7 → GSem nD τ sig} {n i : ℕ} {g : GSem nD τ sig} {u : Unit} (h : 0 < ow cf n i g u) :
    ∃ k : Fin 7, i ≤ k.val ∧ g = cf k := by
  unfold ow at h
  rw [Finset.sum_apply, Finsupp.finset_sum_apply] at h
  obtain ⟨k, hk, hp⟩ := Finset.exists_ne_zero_of_sum_ne_zero h.ne'
  refine ⟨k, (Finset.mem_filter.mp hk).2, ?_⟩
  by_contra hn
  rw [tallyAt_apply, if_neg fun h' => hn h'.1] at hp
  exact hp rfl

/-- What device `c` owes when it has made `b` signals, `p` first transfers and `q` second ones. -/
def owed (c : Dev nD) (b p q : ℕ) : CellTallies nD τ sig Unit :=
  ow (fun k => barC (nx k c)) 1 b + ow (fun k => xC (nx k c) 1 k) N p + ow (fun k => xC (nx k c) 3 k) N q

theorem owed_bar (c : Dev nD) (k : Fin 7) (p q : ℕ) : owed c k.val p q = owed c (k.val + 1) p q + tallyAt (barC (nx k c)) () 1 := by
  unfold owed; rw [ow_step _ _ k]; ac_rfl
theorem owed_rs (c : Dev nD) (k : Fin 7) (b q : ℕ) : owed c b k.val q = owed c b (k.val + 1) q + tallyAt (xC (nx k c) 1 k) () N := by
  unfold owed; rw [ow_step _ N k]; ac_rfl
theorem owed_ag (c : Dev nD) (k : Fin 7) (b p : ℕ) : owed c b p k.val = owed c b p (k.val + 1) + tallyAt (xC (nx k c) 3 k) () N := by
  unfold owed; rw [ow_step _ N k]; ac_rfl
theorem owed_none (c : Dev nD) : owed c 7 7 7 = 0 := by unfold owed; rw [ow_done, ow_done, ow_done, add_zero, add_zero]

/-! ## Levels: the barrier below the first exchange's receives, those below the second's -/

def L (g : GSem nD τ sig) : Finset Unit := if g.1.2 = .tc then {()} else ∅
def levOf : Option CK → ℕ
  | some (.inl _) => 1
  | some (.inr (κ, _)) => match κ with | 0 => 0 | 1 => 2 | 2 => 0 | 3 => 3
  | none => 0
def lv (g : GSem nD τ sig) (_ : Unit) : ℕ := levOf (kindOf g.2)

theorem L_of_ne (g : GSem nD τ sig) (h : g.1.2 ≠ .tc) : L g = ∅ := if_neg h
theorem mem_L (c : Dev nD) (sm : SemLoc sig) : () ∈ L ((c : Thread nD τ), sm) := by
  rw [show L ((c : Thread nD τ), sm) = {()} from if_pos rfl]; exact Finset.mem_singleton_self _
theorem lv_bar (c : Dev nD) : lv (barC c) () = 1 := by unfold lv; rw [kindOf_bar]; rfl
theorem lv_rs (c : Dev nD) (k : Fin 7) : lv (xC c 1 k) () = 2 := by unfold lv; rw [kindOf_dsem]; rfl
theorem lv_ag (c : Dev nD) (k : Fin 7) : lv (xC c 3 k) () = 3 := by unfold lv; rw [kindOf_dsem]; rfl

/-- A device may wait on a cell whose level is below every cell it still owes: below the barrier's if a signal is owed, below the
    first receives' if a first transfer is, below the second receives'. -/
theorem mayWait (c : Dev nD) (sm : SemLoc sig) (b p q e : ℕ) (he : lv ((c : Thread nD τ), sm) () ≤ e) (hb : e < 1 ∨ b = 7) (hp : e < 2 ∨ p = 7) (hq : e < 3 ∨ q = 7) :
    (levAts L lv : sProp 𝕄) ⊢ MayWait (c : Thread nD τ) sm () (owed c b p q) := by
  have key : ∀ (g : GSem nD τ sig) (u : Unit), 0 < owed c b p q g u → u ∈ L g ∧ e < lv g u := by
    intro g u h
    obtain rfl : u = () := rfl
    unfold owed at h
    rw [Pi.add_apply, Finsupp.add_apply, Pi.add_apply, Finsupp.add_apply] at h
    rcases Nat.eq_zero_or_pos (ow (fun k => barC (nx k c)) 1 b g ()) with h1 | h1
    · rcases Nat.eq_zero_or_pos (ow (fun k => xC (nx k c) 1 k) N p g ()) with h2 | h2
      · have h3 : 0 < ow (fun k => xC (nx k c) 3 k) N q g () := by omega
        obtain ⟨k, hk, rfl⟩ := ow_pos h3
        have := k.isLt
        exact ⟨mem_L _ _, by rw [lv_ag]; omega⟩
      · obtain ⟨k, hk, rfl⟩ := ow_pos h2
        have := k.isLt
        exact ⟨mem_L _ _, by rw [lv_rs]; omega⟩
    · obtain ⟨k, hk, rfl⟩ := ow_pos h1
      have := k.isLt
      exact ⟨mem_L _ _, by rw [lv_bar]; omega⟩
  exact MayOwe.of_cut (L := L) (lev := lv) e (fun p hp => by rw [Finset.mem_singleton.mp hp]; exact mem_L _ _) (fun g u h => (key g u h).1)
    (fun p hp => by rw [Finset.mem_singleton.mp hp]; exact he) (fun g u h => (key g u h).2)

theorem lv_send1 (c : Dev nD) (k : Fin 7) : lv (xC c 0 k) () ≤ 0 := by unfold lv; rw [kindOf_dsem]; exact Nat.le_refl _
theorem lv_send2 (c : Dev nD) (k : Fin 7) : lv (xC c 2 k) () ≤ 0 := by unfold lv; rw [kindOf_dsem]; exact Nat.le_refl _

/-! ## A family over the seven distances, some done -/

/-- The members before `i` as `A` has them (done), the others as `B` has them. -/
def upto (A B : Fin 7 → sProp 𝕄) (i : ℕ) : sProp 𝕄 := bigSep Finset.univ fun k : Fin 7 => if k.val < i then A k else B k

omit [FloatOps F] in
theorem upto_zero (A B : Fin 7 → sProp 𝕄) : upto A B 0 = bigSep Finset.univ B := bigSep_congr fun k _ => if_neg (Nat.not_lt_zero _)
omit [FloatOps F] in
theorem upto_all (A B : Fin 7 → sProp 𝕄) : upto A B 7 = bigSep Finset.univ A := bigSep_congr fun k _ => if_pos k.isLt

omit [FloatOps F] in
/-- Doing member `k`: it comes out as `B` has it and goes back as `A` has it. -/
theorem upto_step (A B : Fin 7 → sProp 𝕄) (k : Fin 7) : upto A B k.val ⊢ iprop(B k ∗ (A k -∗ upto A B (k.val + 1))) := by
  have e₁ : upto A B k.val = iprop(B k ∗ bigSep (Finset.univ.erase k) fun j : Fin 7 => if j.val < k.val + 1 then A j else B j) := by
    unfold upto
    rw [bigSep_univ_split k, if_neg (Nat.lt_irrefl _)]
    refine congrArg _ (bigSep_congr fun j hj => ?_)
    have : j.val ≠ k.val := fun h => (Finset.mem_erase.mp hj).1 (Fin.ext h)
    by_cases hl : j.val < k.val
    · rw [if_pos hl, if_pos (by omega)]
    · rw [if_neg hl, if_neg (by omega)]
  have e₂ : upto A B (k.val + 1) = iprop(A k ∗ bigSep (Finset.univ.erase k) fun j : Fin 7 => if j.val < k.val + 1 then A j else B j) := by
    unfold upto
    rw [bigSep_univ_split k, if_pos (Nat.lt_succ_self _)]
    rfl
  rw [e₁, e₂]
  iintro ⟨HB, HR⟩
  isplitl [HB]; · iexact HB
  iintro HA
  isplitl [HA]; · iexact HA
  iexact HR

end Cert.AllReduce

end
-- ==== Proof.Steps.lean ====
/-
# 01_k: one step of each kind

The kernel is seven signals, a wait, seven transfers, fourteen waits, seven transfers and fourteen waits. Each kind of step is
proved once, at any distance, over the family of what the seven distances hold before and after it.
-/
module

public import proofs.«01_k».proof.Proof.Sched

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Facts every step uses -/

/-- Every protocol cell's invariant, and that its round 0 is reached. -/
def records (K : Dev nD × CK → ℕ) : sProp 𝕄 :=
  bigSep Finset.univ fun ck : Dev nD × CK => iprop(cellInv ER (Rd m ρ) (K ck) (kcell ck) ∗ reached ER (kcell ck) 0)

instance records_persistent (K : Dev nD × CK → ℕ) : BI.Persistent (records (F := F) m ρ K) := by unfold records; infer_instance

/-- What holds throughout: the records and the levels. -/
def ctx (K : Dev nD × CK → ℕ) : sProp 𝕄 := iprop(records m ρ K ∗ levAts L lv)

instance ctx_persistent (K : Dev nD × CK → ℕ) : BI.Persistent (ctx (F := F) m ρ K) := by unfold ctx; infer_instance

theorem ctx_cell (K : Dev nD × CK → ℕ) (ck : Dev nD × CK) :
    ctx (F := F) m ρ K ⊢ iprop(cellInv ER (Rd m ρ) (K ck) (kcell ck) ∗ reached ER (kcell ck) 0) := by
  unfold ctx records
  iintro ⟨H, -⟩
  ihave Hc := (show (bigSep Finset.univ fun ck : Dev nD × CK => iprop(cellInv ER (Rd m ρ) (K ck) (kcell ck) ∗ reached ER (kcell ck) 0) : sProp 𝕄)
    ⊢ iprop(cellInv ER (Rd m ρ) (K ck) (kcell ck) ∗ reached ER (kcell ck) 0) from bigSep_elim (Finset.mem_univ ck)) $$ H
  iexact Hc

/-- The debt `O` of device `c`, whatever it has waited on. -/
def ows (c : Dev nD) (O : CellTallies nD τ sig Unit) : sProp 𝕄 := iprop(∃ W, owes (c : Thread nD τ) O W)

/-! ## What one distance holds before and after each kind of step -/

/-- Before the signal to the peer at distance `k + 1`: its duty's token and the rows of `c`'s buffers that peer will write. -/
def sigB (c : Dev nD) (k : Fin 7) : sProp 𝕄 :=
  iprop(dutyTok ER (barC (nx k c)) 0 k ∗ (∃ f, rsRow c (nx k c) f) ∗ ∃ f, agRow c (nx k c) fullShare f)
/-- Before the first transfer: both duties' tokens, the rows to send and the row to write. -/
def tx1B (c : Dev nD) (k : Fin 7) : sProp 𝕄 :=
  iprop(dutyTok ER (xC c 0 k) 0 0 ∗ dutyTok ER (xC (nx k c) 1 k) 0 0 ∗ stBlk c (nx k c) (stageC m ρ c) ∗ ∃ f, rsRow (nx k c) c f)
/-- Before the second transfer: both duties' tokens, the lent share of the sum row and the row to write. -/
def tx2B (c : Dev nD) (k : Fin 7) : sProp 𝕄 :=
  iprop(dutyTok ER (xC c 2 k) 0 0 ∗ dutyTok ER (xC (nx k c) 3 k) 0 0 ∗ agRow c c (lend k.castSucc) (agC m ρ) ∗ ∃ f, agRow (nx k c) c fullShare f)
/-- The credit to wait with on a transfer cell. -/
def crd (c : Dev nD) (κ : Fin 4) (k : Fin 7) : sProp 𝕄 := cred (tallyAt (xC c κ k) () N)
/-- Before the wait on a transfer cell: the credit and the position in round 0. -/
def wtB (c : Dev nD) (κ : Fin 4) (k : Fin 7) : sProp 𝕄 := iprop(crd c κ k ∗ atPos ER (xC c κ k) 0 ∅ 0)
/-- After it: the position past round 0 and the payload. -/
def wtA (c : Dev nD) (κ : Fin 4) (k : Fin 7) : sProp 𝕄 := iprop(atPos ER (xC c κ k) (0 + 1) ∅ 0 ∗ xPay m ρ c κ k)
def noneA (_ : Fin 7) : sProp 𝕄 := iprop(emp)

section Steps

variable (K : Dev nD × CK → ℕ) (c : Dev nD) (k : Fin 7)

/-- The signal to the peer at distance `k + 1`. -/
theorem step_signal {α : Type} {Q : α → sProp 𝕄} {kk : PUnit → Prog (TpuEff nD τ sig (Elt F) Λ₀ .tc) α} {R : sProp 𝕄}
    {n : Dev nD} (hn : n = nx k c) {s : Sem sig} (hs : s = barS) {a : ℤ} (ha : a = 1)
    (hk : iprop(ctx m ρ K ∗ upto noneA (sigB c) (k.val + 1) ∗ ows c (owed c (k.val + 1) 0 0) ∗ R)
      ⊢ wp frame (wpE (defs₀ (F := F)) 𝒱₀ (c : Thread nD τ) none) Set.univ (kk ⟨⟩) Q) :
    iprop(ctx m ρ K ∗ upto noneA (sigB c) k.val ∗ ows c (owed c k.val 0 0) ∗ R)
      ⊢ wp frame (wpE (defs₀ (F := F)) 𝒱₀ (c : Thread nD τ) none) Set.univ (.op (.semSignal (n : Thread nD τ) s a) kk) Q := by
  subst hn hs ha
  unfold ows
  iintro ⟨#HC, HU, ⟨%W, HO⟩, HR⟩
  ihave HU' := (upto_step noneA (sigB c) k) $$ HU
  icases HU' with ⟨HB, Hback⟩
  unfold sigB
  icases HB with ⟨Ht, Hrs, Hag⟩
  ihave #HI := (ctx_cell m ρ K (nx k c, .inl ())) $$ HC
  icases HI with ⟨HI, Hre⟩
  iapply (Rounds.wp_signal 𝒱₀ ER (Rd m ρ) (c : Thread nD τ) none (dst := (nx k c : Thread nD τ)) (κ := K (nx k c, .inl ()))
      (d := k) (by rw [duties_bar]; exact Finset.mem_univ _) (amount_bar m ρ (nx k c) k) () (owed c (k.val + 1) 0 0) (owed_bar c k 0 0))
    $$ [HO Ht Hrs Hag]
  · isplitr; · iexact HI
    isplitl [HO]; · iexact HO
    isplitl [Ht]; · iexact Ht
    isplitl [Hrs Hag]
    · rw [payload_bar]; unfold barPay; rw [pv_nx]
      isplitl [Hrs]; · iexact Hrs
      iexact Hag
    · iexact Hre
  iintro HO
  iapply hk
  isplitr; · iexact HC
  isplitl [Hback]
  · iapply Hback; unfold noneA; iempintro
  isplitl [HO]; · unfold ows; iexists W; iexact HO
  iexact HR

/-- The first transfer to the peer at distance `k + 1`. -/
theorem step_tx1 {α : Type} {Q : α → sProp 𝕄} {kk : PUnit → Prog (TpuEff nD τ sig (Elt F) Λ₀ .tc) α} {R : sProp 𝕄}
    {n : Dev nD} (hn : n = nx k c) {s₀ s₁ : DmaSem sig} (hs₀ : s₀ = dsem 0 k) (hs₁ : s₁ = dsem 1 k)
    {off h} (ho : off = ![c.val, 0, 0]) {off' h'} (ho' : off' = ![32 * (nx k c).val, 0])
    {hsc : (rowV rsM off h : Memref sig (Dev.tc n : Thread nD τ).2.kind .vmem S32x256 .bf16).view.ref.isScScratch = false}
    {hsrc : (blkV off' h').view.WordExact} {hdst : (rowV rsM off h : Memref sig (Dev.tc n : Thread nD τ).2.kind .vmem S32x256 .bf16).view.WordExact}
    {hsem : DmaTarget.Typed .vmem (.dma s₁) (.remote (Dev.tc n : Thread nD τ) (rowV rsM off h : Memref sig (Dev.tc n : Thread nD τ).2.kind .vmem S32x256 .bf16) (.dma s₀) hsc)}
    (hk : iprop(ctx m ρ K ∗ upto (crd c 0) (tx1B m ρ c) (k.val + 1) ∗ ows c (owed c 7 (k.val + 1) 0) ∗ R)
      ⊢ wp frame (wpE (defs₀ (F := F)) 𝒱₀ (c : Thread nD τ) none) Set.univ (kk ⟨⟩) Q) :
    iprop(ctx m ρ K ∗ upto (crd c 0) (tx1B m ρ c) k.val ∗ ows c (owed c 7 k.val 0) ∗ R)
      ⊢ wp frame (wpE (defs₀ (F := F)) 𝒱₀ (c : Thread nD τ) none) Set.univ
          (.op (.enqueueDma (blkV off' h') (.remote (Dev.tc n : Thread nD τ) (rowV rsM off h) (.dma s₀) hsc) (.dma s₁) hsrc hdst hsem) kk) Q := by
  subst hn hs₀ hs₁
  unfold ows
  iintro ⟨#HC, HU, ⟨%W, HO⟩, HR⟩
  ihave HU' := (upto_step (crd c 0) (tx1B m ρ c) k) $$ HU
  icases HU' with ⟨HB, Hback⟩
  ihave HB := (Entails.of_eq (show tx1B (F := F) m ρ c k = iprop(dutyTok ER (xC c 0 k) 0 0 ∗ dutyTok ER (xC (nx k c) 1 k) 0 0
    ∗ stBlk c (nx k c) (stageC m ρ c) ∗ ∃ f, rsRow (nx k c) c f) from rfl)) $$ HB
  icases HB with ⟨Ht₀, Ht₁, Hst, ⟨%fd, Hrs⟩⟩
  ihave #HI₀ := (ctx_cell m ρ K (c, .inr (0, k))) $$ HC
  icases HI₀ with ⟨HI₀, Hre₀⟩
  ihave #HI₁ := (ctx_cell m ρ K (nx k c, .inr (1, k))) $$ HC
  icases HI₁ with ⟨HI₁, Hre₁⟩
  have es : stBlk (F := F) c (nx k c) (stageC m ρ c) = (((blkV off' h').view.loc (c : Thread nD τ)) ↦[(blkV off' h').view.set]{fullShare} stageC m ρ c) := by
    rw [blk_set (nx k c) off' h' ho']; rfl
  have ed (f) : rsRow (F := F) (nx k c) c f = (((rowV rsM off h).view.loc (nx k c : Thread nD τ)) ↦[(rowV rsM off h).view.set]{fullShare} f) := by
    rw [rs_set c off h ho]; rfl
  have hp₀ : (((blkV off' h').view.loc (c : Thread nD τ)) ↦[(blkV off' h').view.set]{fullShare} stageC m ρ c)
      ⊢ (Rd (F := F) m ρ).payload (xC c 0 k) 0 0 := by rw [payload_x, ← es]; exact BI.Entails.refl _
  have hp₁ : (((rowV rsM off h).view.loc (nx k c : Thread nD τ)) ↦[(rowV rsM off h).view.set]{fullShare}
        ((rowV rsM off h).view.write (Elt F) fd ((blkV off' h').view.read (Elt F) (stageC m ρ c)) Finset.univ))
      ⊢ (Rd (F := F) m ρ).payload (xC (nx k c) 1 k) 0 0 := by
    rw [payload_x, pointsTo_congr (landed_rs m ρ c (nx k c) off h ho off' h' ho' fd), ← ed]
    unfold xPay; dsimp only; rw [pv_nx]
  ihave Hst := (Entails.of_eq es) $$ Hst
  ihave Hrs := (Entails.of_eq (ed fd)) $$ Hrs
  iapply (Rounds.wp_send_pointsTo 𝒱₀ ER (Rd m ρ) (c : Thread nD τ) none (src := blkV off' h') (dst := rowV rsM off h) (sS := .dma (dsem 0 k)) (sem := .dma (dsem 1 k)) (c' := (nx k c : Thread nD τ))
    (κ₁ := K (c, .inr (0, k))) (κ₂ := K (nx k c, .inr (1, k)))
    (r₁ := 0) (r₂ := 0) (d₁ := 0) (d₂ := 0) (fd := fd) (fs := stageC m ρ c) (q := fullShare)
    (by rw [duties_x]; exact Finset.mem_singleton_self _) (by rw [duties_x]; exact Finset.mem_singleton_self _)
    () () N (credit_rs off h) (amount_x m ρ c 0 k 0) (amount_x m ρ (nx k c) 1 k 0) (owed c 7 (k.val + 1) 0) (owed_rs c k 7 0) (W := W) hp₀ hp₁) $$ [Hst Hrs HO Ht₀ Ht₁]
  · isplitr; · iexact HI₀
    isplitr; · iexact HI₁
    isplitl [Hst]; · iexact Hst
    isplitl [Hrs]; · iexact Hrs
    isplitl [HO]; · iexact HO
    isplitl [Ht₀]; · iexact Ht₀
    isplitr; · iexact Hre₀
    isplitl [Ht₁]; · iexact Ht₁
    iexact Hre₁
  iintro ⟨Hc, HO⟩
  iapply hk
  isplitr; · iexact HC
  isplitl [Hback Hc]
  · iapply Hback; unfold crd; iexact Hc
  isplitl [HO]; · unfold ows; iexists W; iexact HO
  iexact HR

/-- The second transfer to the peer at distance `k + 1`. -/
theorem step_tx2 {α : Type} {Q : α → sProp 𝕄} {kk : PUnit → Prog (TpuEff nD τ sig (Elt F) Λ₀ .tc) α} {R : sProp 𝕄}
    {n : Dev nD} (hn : n = nx k c) {s₀ s₁ : DmaSem sig} (hs₀ : s₀ = dsem 2 k) (hs₁ : s₁ = dsem 3 k)
    {off h} (ho : off = ![c.val, 0, 0])
    {hsc : (rowV agM off h : Memref sig (Dev.tc n : Thread nD τ).2.kind .vmem S32x256 .bf16).view.ref.isScScratch = false}
    {hsrc : (rowV agM off h).view.WordExact} {hdst : (rowV agM off h : Memref sig (Dev.tc n : Thread nD τ).2.kind .vmem S32x256 .bf16).view.WordExact}
    {hsem : DmaTarget.Typed .vmem (.dma s₁) (.remote (Dev.tc n : Thread nD τ) (rowV agM off h : Memref sig (Dev.tc n : Thread nD τ).2.kind .vmem S32x256 .bf16) (.dma s₀) hsc)}
    (hk : iprop(ctx m ρ K ∗ upto (crd c 2) (tx2B m ρ c) (k.val + 1) ∗ ows c (owed c 7 7 (k.val + 1)) ∗ R)
      ⊢ wp frame (wpE (defs₀ (F := F)) 𝒱₀ (c : Thread nD τ) none) Set.univ (kk ⟨⟩) Q) :
    iprop(ctx m ρ K ∗ upto (crd c 2) (tx2B m ρ c) k.val ∗ ows c (owed c 7 7 k.val) ∗ R)
      ⊢ wp frame (wpE (defs₀ (F := F)) 𝒱₀ (c : Thread nD τ) none) Set.univ
          (.op (.enqueueDma (rowV agM off h) (.remote (Dev.tc n : Thread nD τ) (rowV agM off h) (.dma s₀) hsc) (.dma s₁) hsrc hdst hsem) kk) Q := by
  subst hn hs₀ hs₁
  unfold ows
  iintro ⟨#HC, HU, ⟨%W, HO⟩, HR⟩
  ihave HU' := (upto_step (crd c 2) (tx2B m ρ c) k) $$ HU
  icases HU' with ⟨HB, Hback⟩
  ihave HB := (Entails.of_eq (show tx2B (F := F) m ρ c k = iprop(dutyTok ER (xC c 2 k) 0 0 ∗ dutyTok ER (xC (nx k c) 3 k) 0 0
    ∗ agRow c c (lend k.castSucc) (agC m ρ) ∗ ∃ f, agRow (nx k c) c fullShare f) from rfl)) $$ HB
  icases HB with ⟨Ht₀, Ht₁, Hst, ⟨%fd, Hrs⟩⟩
  ihave #HI₀ := (ctx_cell m ρ K (c, .inr (2, k))) $$ HC
  icases HI₀ with ⟨HI₀, Hre₀⟩
  ihave #HI₁ := (ctx_cell m ρ K (nx k c, .inr (3, k))) $$ HC
  icases HI₁ with ⟨HI₁, Hre₁⟩
  have er (d : Dev nD) (q f) : agRow (F := F) d c q f = (((rowV agM off h).view.loc (d : Thread nD τ)) ↦[(rowV agM off h).view.set]{q} f) := by
    rw [ag_set c off h ho]; rfl
  have hp₀ : (((rowV agM off h).view.loc (c : Thread nD τ)) ↦[(rowV agM off h).view.set]{lend k.castSucc} agC m ρ)
      ⊢ (Rd (F := F) m ρ).payload (xC c 2 k) 0 0 := by rw [payload_x, ← er]; exact BI.Entails.refl _
  have hp₁ : (((rowV agM off h).view.loc (nx k c : Thread nD τ)) ↦[(rowV agM off h).view.set]{fullShare}
        ((rowV agM off h).view.write (Elt F) fd ((rowV agM off h).view.read (Elt F) (agC m ρ)) Finset.univ))
      ⊢ (Rd (F := F) m ρ).payload (xC (nx k c) 3 k) 0 0 := by
    rw [payload_x, pointsTo_congr (landed_ag off h fd (agC m ρ)), ← er]
    unfold xPay; dsimp only; rw [pv_nx]
  ihave Hst := (Entails.of_eq (er c _ _)) $$ Hst
  ihave Hrs := (Entails.of_eq (er (nx k c) _ _)) $$ Hrs
  iapply (Rounds.wp_send_pointsTo 𝒱₀ ER (Rd m ρ) (c : Thread nD τ) none (src := rowV agM off h) (dst := rowV agM off h) (sS := .dma (dsem 2 k)) (sem := .dma (dsem 3 k)) (c' := (nx k c : Thread nD τ))
    (κ₁ := K (c, .inr (2, k))) (κ₂ := K (nx k c, .inr (3, k)))
    (r₁ := 0) (r₂ := 0) (d₁ := 0) (d₂ := 0) (fd := fd) (fs := agC m ρ) (q := lend k.castSucc)
    (by rw [duties_x]; exact Finset.mem_singleton_self _) (by rw [duties_x]; exact Finset.mem_singleton_self _)
    () () N (credit_ag off h) (amount_x m ρ c 2 k 0) (amount_x m ρ (nx k c) 3 k 0) (owed c 7 7 (k.val + 1)) (owed_ag c k 7 7) (W := W) hp₀ hp₁) $$ [Hst Hrs HO Ht₀ Ht₁]
  · isplitr; · iexact HI₀
    isplitr; · iexact HI₁
    isplitl [Hst]; · iexact Hst
    isplitl [Hrs]; · iexact Hrs
    isplitl [HO]; · iexact HO
    isplitl [Ht₀]; · iexact Ht₀
    isplitr; · iexact Hre₀
    isplitl [Ht₁]; · iexact Ht₁
    iexact Hre₁
  iintro ⟨Hc, HO⟩
  iapply hk
  isplitr; · iexact HC
  isplitl [Hback Hc]
  · iapply Hback; unfold crd; iexact Hc
  isplitl [HO]; · unfold ows; iexists W; iexact HO
  iexact HR

/-- The wait on a transfer cell of any kind. -/
theorem step_wait {α : Type} {Q : α → sProp 𝕄} {kk : PUnit → Prog (TpuEff nD τ sig (Elt F) Λ₀ .tc) α} {R : sProp 𝕄}
    (κ : Fin 4) {s : DmaSem sig} (hs : s = dsem κ k) {O : CellTallies nD τ sig Unit}
    (hM : (levAts L lv : sProp 𝕄) ⊢ MayWait (c : Thread nD τ) (.dma (dsem κ k)) () O)
    {sp sp' : Space} {sh sh' : Shape} {e e' : EltTy} {src : Memref sig .tc sp' sh' e'} {dst : Memref sig .tc sp sh e} (hN : dst.view.dmaCredit = N)
    {hsrc : src.view.WordExact} {hdst : dst.view.WordExact}
    (hk : iprop(ctx m ρ K ∗ upto (wtA m ρ c κ) (wtB c κ) (k.val + 1) ∗ ows c O ∗ R)
      ⊢ wp frame (wpE (defs₀ (F := F)) 𝒱₀ (c : Thread nD τ) none) Set.univ (kk ⟨⟩) Q) :
    iprop(ctx m ρ K ∗ upto (wtA m ρ c κ) (wtB c κ) k.val ∗ ows c O ∗ R)
      ⊢ wp frame (wpE (defs₀ (F := F)) 𝒱₀ (c : Thread nD τ) none) Set.univ (.op (.waitDma2 s src dst hsrc hdst) kk) Q := by
  subst hs
  unfold ows
  iintro ⟨#HC, HU, ⟨%W, HO⟩, HR⟩
  ihave HU' := (upto_step (wtA m ρ c κ) (wtB c κ) k) $$ HU
  icases HU' with ⟨HB, Hback⟩
  have eB : wtB (F := F) c κ k = iprop(cred (tallyAt (xC c κ k) () dst.view.dmaCredit) ∗ atPos ER (xC c κ k) 0 ∅ 0) := by
    unfold wtB crd; rw [hN]
  ihave HB := (Entails.of_eq eB) $$ HB
  icases HB with ⟨Hc, Hat⟩
  ihave #HI := (ctx_cell m ρ K (c, .inr (κ, k))) $$ HC
  icases HI with ⟨HI, -⟩
  have hx : 0 + dst.view.dmaCredit = (Rd (F := F) m ρ).expect (xC c κ k) 0 := by rw [Nat.zero_add, expect_x, hN]
  iapply (Rounds.wp_wait_rest_token 𝒱₀ ER (Rd m ρ) (c : Thread nD τ) none (κ := K (c, .inr (κ, k)))
      (wpE_waitDma2_eq 𝒱₀ (c : Thread nD τ) none Set.univ) (Set.mem_univ _) () (O := O) (W := W) (R := 0) (m := 0) (T := ∅)
      hx) $$ [Hc HO Hat]
  · isplitr; · iexact HI
    isplitl [Hc]; · iexact Hc
    isplitl [HO]; · iexact HO
    isplitr
    · iapply hM; unfold ctx; icases HC with ⟨-, HL⟩; iexact HL
    iexact Hat
  iintro ⟨HO, Hat, -, Hpay⟩
  ihave Hp := (Entails.of_eq (rest_x m ρ c κ k)) $$ Hpay
  iapply hk
  isplitr; · iexact HC
  isplitl [Hback Hat Hp]
  · iapply Hback
    unfold wtA
    isplitl [Hat] <;> iassumption
  isplitl [HO]; · unfold ows; iexists _; iexact HO
  iexact HR

/-- The wait for the seven peers' signals: the row of each of their two buffers that `c` writes comes with it. -/
theorem step_bar {α : Type} {Q : α → sProp 𝕄} {kk : PUnit → Prog (TpuEff nD τ sig (Elt F) Λ₀ .tc) α} {R : sProp 𝕄}
    {s : Sem sig} (hs : s = barS) {a : ℤ} (ha : a = 7)
    (hk : iprop(ctx m ρ K ∗ (atPos ER (barC c) (0 + 1) ∅ 0 ∗ (bigSep Finset.univ fun k : Fin 7 => iprop(∃ f, rsRow (nx k c) c f))
          ∗ bigSep Finset.univ fun k : Fin 7 => iprop(∃ f, agRow (nx k c) c fullShare f)) ∗ ows c (owed c 7 0 0) ∗ R)
      ⊢ wp frame (wpE (defs₀ (F := F)) 𝒱₀ (c : Thread nD τ) none) Set.univ (kk ⟨⟩) Q) :
    iprop(ctx m ρ K ∗ (cred (tallyAt (barC c) () 7) ∗ atPos ER (barC c) 0 ∅ 0) ∗ ows c (owed c 7 0 0) ∗ R)
      ⊢ wp frame (wpE (defs₀ (F := F)) 𝒱₀ (c : Thread nD τ) none) Set.univ (.op (.semWait s a) kk) Q := by
  subst hs ha
  have ep : (bigSep Finset.univ fun k : Fin 7 => barPay (F := F) c k)
      = iprop((bigSep Finset.univ fun k : Fin 7 => iprop(∃ f, rsRow (nx k c) c f)) ∗ bigSep Finset.univ fun k : Fin 7 => iprop(∃ f, agRow (nx k c) c fullShare f)) := by
    rw [bigSep_univ_equiv Fin.revPerm, ← bigSep_sep']
    refine bigSep_congr fun k _ => ?_
    show barPay c (Fin.rev k) = _
    unfold barPay
    rw [pv_rev]
  unfold ows
  iintro ⟨#HC, ⟨Hc, Hat⟩, ⟨%W, HO⟩, HR⟩
  ihave #HI := (ctx_cell m ρ K (c, .inl ())) $$ HC
  icases HI with ⟨HI, -⟩
  iapply (Rounds.wp_wait_rest_token 𝒱₀ ER (Rd m ρ) (c : Thread nD τ) none (κ := K (c, .inl ()))
      (wpE_semWait_eq 𝒱₀ (c : Thread nD τ) none Set.univ) (Set.mem_univ _) () (O := owed c 7 0 0) (W := W) (R := 0) (m := 0) (T := ∅)
      (by rw [Nat.zero_add, expect_bar])) $$ [Hc HO Hat]
  · isplitr; · iexact HI
    isplitl [Hc]; · iexact Hc
    isplitl [HO]; · iexact HO
    isplitr
    · iapply (mayWait c (.reg barS) 7 0 0 1 (lv_bar c).le (.inr rfl) (.inl (by decide)) (.inl (by decide)))
      unfold ctx; icases HC with ⟨-, HL⟩; iexact HL
    iexact Hat
  iintro ⟨HO, Hat, -, Hpay⟩
  ihave Hp := (Entails.of_eq ((rest_bar m ρ c).trans ep)) $$ Hpay
  icases Hp with ⟨H1, H2⟩
  iapply hk
  isplitr; · iexact HC
  isplitl [Hat H1 H2]
  · isplitl [Hat]; · iexact Hat
    isplitl [H1] <;> iassumption
  isplitl [HO]; · unfold ows; iexists _; iexact HO
  iexact HR

end Steps

end Cert.AllReduce

end
-- ==== Proof.Moves.lean ====
/-
# 01_k: what the device holds between the steps

The buffers cut into the rows the peers write and read, put back together, and the states the kernel is in between its
groups of steps, with the passage from each group's end to the next one's start.
-/
module

public import proofs.«01_k».proof.Proof.Steps

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers and their rows -/

/-- A buffer of device `c` held whole at `f`. -/
def whP (c : Dev nD) (b : Ref sig .tc) (f : b.ty.Contents (Elt F)) : sProp 𝕄 := ((c : Thread nD τ).loc b) ↦{fullShare} f

/-- Held whole, the staging buffer is its eight blocks. -/
theorem st_whole (c : Dev nD) (f) : whP (F := F) c cc0_scratch0 f = bigSep Finset.univ fun p : Dev nD => stBlk c p f := by
  unfold whP stBlk
  have hc : (Finset.univ : Finset (Dev nD)).biUnion (fun p => (blkSet p : Finset (Idx ((c : Thread nD τ).loc cc0_scratch0)))) = Finset.univ :=
    Finset.eq_univ_iff_forall.mpr fun i => Finset.mem_biUnion.mpr
      ⟨⟨((i : S256x256.Idx) 0).val / 32, Nat.div_lt_of_lt_mul ((i : S256x256.Idx) 0).isLt⟩, Finset.mem_univ _, mem_blkSet.mpr rfl⟩
  exact Ring.pointsTo_blocks (ℓ := (c : Thread nD τ).loc cc0_scratch0) (B := Dev nD) blkSet blkSet_disjoint hc f
/-- Held whole, the first exchange buffer is its eight rows. -/
theorem rs_whole (c : Dev nD) (f) : whP (F := F) c cc0_scratch1 f = bigSep Finset.univ fun p : Dev nD => rsRow c p f := by
  unfold whP rsRow
  have hc : (Finset.univ : Finset (Dev nD)).biUnion (fun p => (rowSet p : Finset (Idx ((c : Thread nD τ).loc cc0_scratch1)))) = Finset.univ :=
    Finset.eq_univ_iff_forall.mpr fun i => Finset.mem_biUnion.mpr ⟨(i : S8x32x256.Idx) 0, Finset.mem_univ _, mem_rowSet.mpr rfl⟩
  exact Ring.pointsTo_blocks (ℓ := (c : Thread nD τ).loc cc0_scratch1) (B := Dev nD) rowSet rowSet_disjoint hc f
/-- Held whole, so is the second. -/
theorem ag_whole (c : Dev nD) (f) : whP (F := F) c cc0_scratch2 f = bigSep Finset.univ fun p : Dev nD => agRow c p fullShare f := by
  unfold whP agRow
  have hc : (Finset.univ : Finset (Dev nD)).biUnion (fun p => (rowSet p : Finset (Idx ((c : Thread nD τ).loc cc0_scratch2)))) = Finset.univ :=
    Finset.eq_univ_iff_forall.mpr fun i => Finset.mem_biUnion.mpr ⟨(i : S8x32x256.Idx) 0, Finset.mem_univ _, mem_rowSet.mpr rfl⟩
  exact Ring.pointsTo_blocks (ℓ := (c : Thread nD τ).loc cc0_scratch2) (B := Dev nD) rowSet rowSet_disjoint hc f

/-- The staging buffer is its block `c` and the blocks of the seven devices after `c`. -/
theorem st_rows (c : Dev nD) (f) : whP (F := F) c cc0_scratch0 f = iprop(stBlk c c f ∗ bigSep Finset.univ fun k : Fin 7 => stBlk c (nx k c) f) :=
  (st_whole c f).trans (split_nx c fun p => stBlk c p f)
/-- The first exchange buffer likewise, by rows, -/
theorem rs_rows (c : Dev nD) (f) : whP (F := F) c cc0_scratch1 f = iprop(rsRow c c f ∗ bigSep Finset.univ fun k : Fin 7 => rsRow c (nx k c) f) :=
  (rs_whole c f).trans (split_nx c fun p => rsRow c p f)
/-- or with the rows of the devices before `c`; -/
theorem rs_rows_pv (c : Dev nD) (f) : whP (F := F) c cc0_scratch1 f = iprop(rsRow c c f ∗ bigSep Finset.univ fun k : Fin 7 => rsRow c (pv k c) f) :=
  (rs_whole c f).trans (split_pv c fun p => rsRow c p f)
/-- the second exchange buffer the same two ways. -/
theorem ag_rows (c : Dev nD) (f) :
    whP (F := F) c cc0_scratch2 f = iprop(agRow c c fullShare f ∗ bigSep Finset.univ fun k : Fin 7 => agRow c (nx k c) fullShare f) :=
  (ag_whole c f).trans (split_nx c fun p => agRow c p fullShare f)
theorem ag_rows_pv (c : Dev nD) (f) :
    whP (F := F) c cc0_scratch2 f = iprop(agRow c c fullShare f ∗ bigSep Finset.univ fun k : Fin 7 => agRow c (pv k c) fullShare f) :=
  (ag_whole c f).trans (split_pv c fun p => agRow c p fullShare f)

/-- A device's own sum row is the seven shares it lends and the one it keeps. -/
theorem ag_lend (c : Dev nD) (f) :
    agRow (F := F) c c fullShare f = iprop(agRow c c (lend (Fin.last 7)) f ∗ bigSep Finset.univ fun k : Fin 7 => agRow c c (lend k.castSucc) f) := by
  have h8 : agRow (F := F) c c fullShare f = bigSep (Finset.univ : Finset (Fin (2 ^ 3))) fun i => agRow c c (ShareLeaves.leaf 3 fullShare i) f := by
    unfold agRow
    exact ShareLeaves.pointsTo_leaves (ℓ := (c : Thread nD τ).loc cc0_scratch2) (rowSet c) f 3 fullShare
  have he : (Finset.univ : Finset (Fin 8)).erase (Fin.last 7) = Finset.univ.map ⟨fun k : Fin 7 => k.castSucc, Fin.castSucc_injective 7⟩ := by decide
  have h8' : agRow (F := F) c c fullShare f = bigSep (Finset.univ : Finset (Fin 8)) fun i => agRow c c (lend i) f := h8
  rw [h8', bigSep_univ_split (Fin.last 7), he, bigSep_map]; rfl

/-! ## Loads and stores, the rest set aside -/

section Steps

variable (c : Dev nD)

/-- A load, given what it reads. -/
theorem step_load {α : Type} {Q : α → sProp 𝕄} {R : sProp 𝕄} {cs : CoreSpace} {sh : Shape} {e : EltTy} (M : Memref sig .tc cs sh e) {r : Rect sh} {hl : M.view.LoadsAt r.toLoadRect}
    {kk : (r.shape.Idx → Elt F e) → Prog (TpuEff nD τ sig (Elt F) Λ₀ .tc) α}
    {S : Finset (Idx ((M.access r).loc (c : Thread nD τ)))} {q : PosShare TreeShare} {f : Buf (Elt F) ((M.access r).loc (c : Thread nD τ))}
    (hS : (M.access r).set ⊆ S) {v : r.shape.Idx → Elt F e} (hv : (M.access r).read (Elt F) f = v) {P : sProp 𝕄} (hP : P = ((M.access r).loc (c : Thread nD τ) ↦[S]{q} f))
    (hk : iprop(P ∗ R) ⊢ wp frame (wpE (defs₀ (F := F)) 𝒱₀ (c : Thread nD τ) none) Set.univ (kk v) Q) :
    iprop(P ∗ R) ⊢ wp frame (wpE (defs₀ (F := F)) 𝒱₀ (c : Thread nD τ) none) Set.univ (.op (.load M r.toLoadRect hl) kk) Q := by
  subst hv hP
  iintro ⟨HP, HR⟩
  iapply (wp_load_rect 𝒱₀ (c : Thread nD τ) none Set.univ (m := M) hS) $$ HP
  iintro HP
  iapply hk
  isplitl [HP] <;> iassumption

/-- An unmasked store, given what the buffer then holds. -/
theorem step_store {α : Type} {Q : α → sProp 𝕄} {R : sProp 𝕄} {cs : CoreSpace} {sh : Shape} {e : EltTy} (M : Memref sig .tc cs sh e) {r : Rect sh} {w : r.shape.Idx → Elt F e}
    {hx : (M.access r).Stores Finset.univ} {hm : (Finset.univ : Finset r.shape.Idx) = Finset.univ ∨ ∀ a, r.stride a = 1}
    {kk : PUnit → Prog (TpuEff nD τ sig (Elt F) Λ₀ .tc) α}
    {S : Finset (Idx ((M.access r).loc (c : Thread nD τ)))} {f g : Buf (Elt F) ((M.access r).loc (c : Thread nD τ))}
    (hS : (M.access r).set ⊆ S) (hg : ∀ i ∈ S, (M.access r).write (Elt F) f w Finset.univ i = g i)
    {P P' : sProp 𝕄} (hP : P = ((M.access r).loc (c : Thread nD τ) ↦[S]{fullShare} f)) (hP' : P' = ((M.access r).loc (c : Thread nD τ) ↦[S]{fullShare} g))
    (hk : iprop(P' ∗ R) ⊢ wp frame (wpE (defs₀ (F := F)) 𝒱₀ (c : Thread nD τ) none) Set.univ (kk ⟨⟩) Q) :
    iprop(P ∗ R) ⊢ wp frame (wpE (defs₀ (F := F)) 𝒱₀ (c : Thread nD τ) none) Set.univ (.op (.store M r w Finset.univ hx hm) kk) Q := by
  rw [← pointsTo_congr hg] at hP'
  subst hP hP'
  iintro ⟨HP, HR⟩
  iapply (wp_store 𝒱₀ (c : Thread nD τ) none Set.univ (m := M) (r := r) (Mk := Finset.univ) hS) $$ HP
  iintro HP
  iapply hk
  isplitl [HP] <;> iassumption

end Steps

/-! ## The states between the groups of steps -/

/-- The tokens of the barrier duties `c` pays. -/
def tokB (c : Dev nD) : sProp 𝕄 := bigSep Finset.univ fun k : Fin 7 => dutyTok ER (barC (nx k c)) 0 k
/-- The tokens of the duties of `c`'s own send cells of a kind. -/
def tokS (c : Dev nD) (κ : Fin 4) : sProp 𝕄 := bigSep Finset.univ fun k : Fin 7 => dutyTok ER (xC c κ k) 0 0
/-- The tokens of the duties `c` pays on its peers' receive cells of a kind. -/
def tokR (c : Dev nD) (κ : Fin 4) : sProp 𝕄 := bigSep Finset.univ fun k : Fin 7 => dutyTok ER (xC (nx k c) κ k) 0 0
/-- The positions in round 0 of `c`'s cells of a kind, -/
def pos (c : Dev nD) (κ : Fin 4) : sProp 𝕄 := bigSep Finset.univ fun k : Fin 7 => atPos ER (xC c κ k) 0 ∅ 0
/-- and past it. -/
def don (c : Dev nD) (κ : Fin 4) : sProp 𝕄 := bigSep Finset.univ fun k : Fin 7 => atPos ER (xC c κ k) (0 + 1) ∅ 0
/-- The credits to wait with on `c`'s cells of a kind. -/
def crds (c : Dev nD) (κ : Fin 4) : sProp 𝕄 := bigSep Finset.univ fun k : Fin 7 => crd c κ k
/-- What the first exchange uses up. -/
def mid (c : Dev nD) : sProp 𝕄 := iprop(tokS c 0 ∗ tokR c 1 ∗ pos c 0 ∗ pos c 1 ∗ crds c 1)
/-- What the second exchange uses up. -/
def late (c : Dev nD) : sProp 𝕄 := iprop(tokS c 2 ∗ tokR c 3 ∗ pos c 2 ∗ pos c 3 ∗ crds c 3)
/-- What the barrier wait uses up, and what it leaves. -/
def barW (c : Dev nD) : sProp 𝕄 := iprop(cred (tallyAt (barC c) () 7) ∗ atPos ER (barC c) 0 ∅ 0)
def barD (c : Dev nD) : sProp 𝕄 := atPos ER (barC c) (0 + 1) ∅ 0
/-- The peers' rows that `c` may write. -/
def rsN (c : Dev nD) : sProp 𝕄 := bigSep Finset.univ fun k : Fin 7 => iprop(∃ f, rsRow (nx k c) c f)
def agN (c : Dev nD) : sProp 𝕄 := bigSep Finset.univ fun k : Fin 7 => iprop(∃ f, agRow (nx k c) c fullShare f)

section Moves

variable (K : Dev nD × CK → ℕ) (c : Dev nD)

/-- Setting aside one thing instead of another. -/
theorem swap {A B R G : sProp 𝕄} (h : iprop(B ∗ A ∗ R) ⊢ G) : iprop(A ∗ B ∗ R) ⊢ G := by
  refine BI.Entails.trans (show iprop(A ∗ B ∗ R) ⊢ iprop(B ∗ A ∗ R) from ?_) h
  iintro ⟨HA, HB, HR⟩
  isplitl [HB]; · iexact HB
  isplitl [HA] <;> iassumption

/-- The block and result buffers the steps leave alone. -/
def io (g : S256x256.Idx → Elt F .f32) : sProp 𝕄 := iprop(whP c cc0_stg0_0 (xstg m ρ c) ∗ whP c cc0_stg1_0 g)

variable (g : S256x256.Idx → Elt F .f32) (f₁ f₂ : S8x32x256.Idx → Elt F .bf16)

/-- To the signals: the exchange buffers cut into rows. -/
theorem move_signals :
    iprop(whP c cc0_scratch0 (stageC m ρ c) ∗ io m ρ c g ∗ whP c cc0_scratch1 f₁ ∗ whP c cc0_scratch2 f₂ ∗ ctx m ρ K ∗ ows c (owed c 0 0 0) ∗ tokB c ∗ barW c ∗ mid c ∗ late c)
      ⊢ iprop(ctx m ρ K ∗ upto noneA (sigB c) 0 ∗ ows c (owed c 0 0 0)
          ∗ whP c cc0_scratch0 (stageC m ρ c) ∗ io m ρ c g ∗ rsRow c c f₁ ∗ agRow c c fullShare f₂ ∗ barW c ∗ mid c ∗ late c) := by
  have h₁ : (bigSep Finset.univ fun k : Fin 7 => rsRow (F := F) c (nx k c) f₁) ⊢ bigSep Finset.univ fun k : Fin 7 => iprop(∃ f, rsRow c (nx k c) f) :=
    bigSep_mono fun k _ => show rsRow c (nx k c) f₁ ⊢ iprop(∃ f, rsRow c (nx k c) f) by iintro H; iexists f₁; iexact H
  have h₂ : (bigSep Finset.univ fun k : Fin 7 => agRow (F := F) c (nx k c) fullShare f₂) ⊢ bigSep Finset.univ fun k : Fin 7 => iprop(∃ f, agRow c (nx k c) fullShare f) :=
    bigSep_mono fun k _ => show agRow c (nx k c) fullShare f₂ ⊢ iprop(∃ f, agRow c (nx k c) fullShare f) by iintro H; iexists f₂; iexact H
  rw [upto_zero, rs_rows, ag_rows]
  unfold sigB tokB
  rw [bigSep_sep', bigSep_sep']
  iintro ⟨Hst, Hio, ⟨Hr, Hrs⟩, ⟨Ha, Has⟩, HC, HO, Ht, HR⟩
  isplitl [HC]; · iexact HC
  isplitl [Ht Hrs Has]
  · isplitl [Ht]; · iexact Ht
    isplitl [Hrs]; · iapply h₁; iexact Hrs
    iapply h₂; iexact Has
  isplitl [HO]; · iexact HO
  isplitl [Hst]; · iexact Hst
  isplitl [Hio]; · iexact Hio
  isplitl [Hr]; · iexact Hr
  isplitl [Ha]; · iexact Ha
  iexact HR

/-- To the barrier wait. -/
theorem move_barrier :
    iprop(ctx m ρ K ∗ upto noneA (sigB c) 7 ∗ ows c (owed c 7 0 0)
          ∗ whP c cc0_scratch0 (stageC m ρ c) ∗ io m ρ c g ∗ rsRow c c f₁ ∗ agRow c c fullShare f₂ ∗ barW c ∗ mid c ∗ late c)
      ⊢ iprop(ctx m ρ K ∗ barW c ∗ ows c (owed c 7 0 0)
          ∗ whP c cc0_scratch0 (stageC m ρ c) ∗ io m ρ c g ∗ rsRow c c f₁ ∗ agRow c c fullShare f₂ ∗ mid c ∗ late c) := by
  rw [upto_all]
  iintro ⟨HC, -, HO, Hst, Hio, Hr, Ha, Hb, HR⟩
  isplitl [HC]; · iexact HC
  isplitl [Hb]; · iexact Hb
  isplitl [HO]; · iexact HO
  isplitl [Hst]; · iexact Hst
  isplitl [Hio]; · iexact Hio
  isplitl [Hr]; · iexact Hr
  isplitl [Ha] <;> iassumption

/-- To the first transfers: the staging buffer cut into blocks. -/
theorem move_tx1 :
    iprop(ctx m ρ K ∗ (barD c ∗ rsN c ∗ agN c) ∗ ows c (owed c 7 0 0)
          ∗ whP c cc0_scratch0 (stageC m ρ c) ∗ io m ρ c g ∗ rsRow c c f₁ ∗ agRow c c fullShare f₂ ∗ mid c ∗ late c)
      ⊢ iprop(ctx m ρ K ∗ upto (crd c 0) (tx1B m ρ c) 0 ∗ ows c (owed c 7 0 0)
          ∗ stBlk c c (stageC m ρ c) ∗ io m ρ c g ∗ rsRow c c f₁ ∗ agRow c c fullShare f₂ ∗ barD c ∗ agN c ∗ pos c 0 ∗ pos c 1 ∗ crds c 1 ∗ late c) := by
  rw [upto_zero, st_rows]
  unfold tx1B mid tokS tokR rsN
  rw [bigSep_sep', bigSep_sep', bigSep_sep']
  iintro ⟨HC, ⟨Hb, Hrs, HaN⟩, HO, ⟨Hst, Hsts⟩, Hio, Hr, Ha, ⟨Ht₀, Ht₁, Hm⟩, HR⟩
  isplitl [HC]; · iexact HC
  isplitl [Ht₀ Ht₁ Hsts Hrs]
  · isplitl [Ht₀]; · iexact Ht₀
    isplitl [Ht₁]; · iexact Ht₁
    isplitl [Hsts] <;> iassumption
  isplitl [HO]; · iexact HO
  isplitl [Hst]; · iexact Hst
  isplitl [Hio]; · iexact Hio
  isplitl [Hr]; · iexact Hr
  isplitl [Ha]; · iexact Ha
  isplitl [Hb]; · iexact Hb
  isplitl [HaN]; · iexact HaN
  icases Hm with ⟨H₁, H₂, H₃⟩
  isplitl [H₁]; · iexact H₁
  isplitl [H₂]; · iexact H₂
  isplitl [H₃] <;> iassumption

/-- To the loads and the store of the device's own block. -/
theorem move_own :
    iprop(ctx m ρ K ∗ upto (crd c 0) (tx1B m ρ c) 7 ∗ ows c (owed c 7 7 0)
          ∗ stBlk c c (stageC m ρ c) ∗ io m ρ c g ∗ rsRow c c f₁ ∗ agRow c c fullShare f₂ ∗ barD c ∗ agN c ∗ pos c 0 ∗ pos c 1 ∗ crds c 1 ∗ late c)
      ⊢ iprop(stBlk c c (stageC m ρ c) ∗ rsRow c c f₁ ∗ (ctx m ρ K ∗ crds c 0 ∗ ows c (owed c 7 7 0)
          ∗ io m ρ c g ∗ agRow c c fullShare f₂ ∗ barD c ∗ agN c ∗ pos c 0 ∗ pos c 1 ∗ crds c 1 ∗ late c)) := by
  rw [upto_all]
  unfold crds
  iintro ⟨HC, Hc, HO, Hst, Hio, Hr, HR⟩
  isplitl [Hst]; · iexact Hst
  isplitl [Hr]; · iexact Hr
  isplitl [HC]; · iexact HC
  isplitl [Hc]; · iexact Hc
  isplitl [HO]; · iexact HO
  isplitl [Hio] <;> iassumption

/-- To the first waits. -/
theorem move_wait1 :
    iprop(rsRow c c (rsC m ρ c) ∗ stBlk c c (stageC m ρ c) ∗ (ctx m ρ K ∗ crds c 0 ∗ ows c (owed c 7 7 0)
          ∗ io m ρ c g ∗ agRow c c fullShare f₂ ∗ barD c ∗ agN c ∗ pos c 0 ∗ pos c 1 ∗ crds c 1 ∗ late c))
      ⊢ iprop(ctx m ρ K ∗ (upto (wtA m ρ c 0) (wtB c 0) 0 ∗ upto (wtA m ρ c 1) (wtB c 1) 0) ∗ ows c (owed c 7 7 0)
          ∗ rsRow c c (rsC m ρ c) ∗ stBlk c c (stageC m ρ c) ∗ io m ρ c g ∗ agRow c c fullShare f₂ ∗ barD c ∗ agN c ∗ late c) := by
  rw [upto_zero, upto_zero]
  unfold wtB pos crds
  rw [bigSep_sep', bigSep_sep']
  iintro ⟨Hr, Hst, HC, Hc₀, HO, Hio, Ha, Hb, HaN, Hp₀, Hp₁, Hc₁, HR⟩
  isplitl [HC]; · iexact HC
  isplitl [Hc₀ Hp₀ Hc₁ Hp₁]
  · isplitl [Hc₀ Hp₀]
    · isplitl [Hc₀] <;> iassumption
    isplitl [Hc₁] <;> iassumption
  isplitl [HO]; · iexact HO
  isplitl [Hr]; · iexact Hr
  isplitl [Hst]; · iexact Hst
  isplitl [Hio]; · iexact Hio
  isplitl [Ha]; · iexact Ha
  isplitl [Hb]; · iexact Hb
  isplitl [HaN] <;> iassumption

/-- To the reduction: the first exchange's buffers whole again. -/
theorem move_reduce :
    iprop(ctx m ρ K ∗ (upto (wtA m ρ c 0) (wtB c 0) 7 ∗ upto (wtA m ρ c 1) (wtB c 1) 7) ∗ ows c (owed c 7 7 0)
          ∗ rsRow c c (rsC m ρ c) ∗ stBlk c c (stageC m ρ c) ∗ io m ρ c g ∗ agRow c c fullShare f₂ ∗ barD c ∗ agN c ∗ late c)
      ⊢ iprop(whP c cc0_scratch1 (rsC m ρ c) ∗ agRow c c fullShare f₂ ∗ (ctx m ρ K ∗ ows c (owed c 7 7 0)
          ∗ whP c cc0_scratch0 (stageC m ρ c) ∗ io m ρ c g ∗ barD c ∗ agN c ∗ don c 0 ∗ don c 1 ∗ late c)) := by
  rw [upto_all, upto_all, st_rows, rs_rows_pv]
  unfold wtA don
  rw [bigSep_sep', bigSep_sep']
  iintro ⟨HC, ⟨⟨Hd₀, Hsts⟩, Hd₁, Hrs⟩, HO, Hr, Hst, Hio, Ha, Hb, HaN, HR⟩
  isplitl [Hr Hrs]
  · isplitl [Hr]; · iexact Hr
    iexact Hrs
  isplitl [Ha]; · iexact Ha
  isplitl [HC]; · iexact HC
  isplitl [HO]; · iexact HO
  isplitl [Hst Hsts]
  · isplitl [Hst]; · iexact Hst
    iexact Hsts
  isplitl [Hio]; · iexact Hio
  isplitl [Hb]; · iexact Hb
  isplitl [HaN]; · iexact HaN
  isplitl [Hd₀]; · iexact Hd₀
  isplitl [Hd₁] <;> iassumption

/-- To the second transfers: the sum row lent out. -/
theorem move_tx2 :
    iprop(agRow c c fullShare (agC m ρ) ∗ whP c cc0_scratch1 (rsC m ρ c) ∗ (ctx m ρ K ∗ ows c (owed c 7 7 0)
          ∗ whP c cc0_scratch0 (stageC m ρ c) ∗ io m ρ c g ∗ barD c ∗ agN c ∗ don c 0 ∗ don c 1 ∗ late c))
      ⊢ iprop(ctx m ρ K ∗ upto (crd c 2) (tx2B m ρ c) 0 ∗ ows c (owed c 7 7 0)
          ∗ agRow c c (lend (Fin.last 7)) (agC m ρ) ∗ whP c cc0_scratch1 (rsC m ρ c) ∗ whP c cc0_scratch0 (stageC m ρ c) ∗ io m ρ c g
          ∗ barD c ∗ don c 0 ∗ don c 1 ∗ pos c 2 ∗ pos c 3 ∗ crds c 3) := by
  rw [upto_zero, ag_lend]
  unfold tx2B late tokS tokR agN
  rw [bigSep_sep', bigSep_sep', bigSep_sep']
  iintro ⟨⟨Ha, Has⟩, Hrs, HC, HO, Hst, Hio, Hb, HaN, Hd₀, Hd₁, Ht₂, Ht₃, HR⟩
  isplitl [HC]; · iexact HC
  isplitl [Ht₂ Ht₃ Has HaN]
  · isplitl [Ht₂]; · iexact Ht₂
    isplitl [Ht₃]; · iexact Ht₃
    isplitl [Has] <;> iassumption
  isplitl [HO]; · iexact HO
  isplitl [Ha]; · iexact Ha
  isplitl [Hrs]; · iexact Hrs
  isplitl [Hst]; · iexact Hst
  isplitl [Hio]; · iexact Hio
  isplitl [Hb]; · iexact Hb
  isplitl [Hd₀]; · iexact Hd₀
  isplitl [Hd₁] <;> iassumption

/-- To the second waits. -/
theorem move_wait2 :
    iprop(ctx m ρ K ∗ upto (crd c 2) (tx2B m ρ c) 7 ∗ ows c (owed c 7 7 7)
          ∗ agRow c c (lend (Fin.last 7)) (agC m ρ) ∗ whP c cc0_scratch1 (rsC m ρ c) ∗ whP c cc0_scratch0 (stageC m ρ c) ∗ io m ρ c g
          ∗ barD c ∗ don c 0 ∗ don c 1 ∗ pos c 2 ∗ pos c 3 ∗ crds c 3)
      ⊢ iprop(ctx m ρ K ∗ (upto (wtA m ρ c 2) (wtB c 2) 0 ∗ upto (wtA m ρ c 3) (wtB c 3) 0) ∗ ows c (owed c 7 7 7)
          ∗ agRow c c (lend (Fin.last 7)) (agC m ρ) ∗ whP c cc0_scratch1 (rsC m ρ c) ∗ whP c cc0_scratch0 (stageC m ρ c) ∗ io m ρ c g
          ∗ barD c ∗ don c 0 ∗ don c 1) := by
  rw [upto_all, upto_zero, upto_zero]
  unfold wtB pos crds
  rw [bigSep_sep', bigSep_sep']
  iintro ⟨HC, Hc₂, HO, Ha, Hrs, Hst, Hio, Hb, Hd₀, Hd₁, Hp₂, Hp₃, Hc₃⟩
  isplitl [HC]; · iexact HC
  isplitl [Hc₂ Hp₂ Hc₃ Hp₃]
  · isplitl [Hc₂ Hp₂]
    · isplitl [Hc₂] <;> iassumption
    isplitl [Hc₃] <;> iassumption
  isplitl [HO]; · iexact HO
  isplitl [Ha]; · iexact Ha
  isplitl [Hrs]; · iexact Hrs
  isplitl [Hst]; · iexact Hst
  isplitl [Hio]; · iexact Hio
  isplitl [Hb]; · iexact Hb
  isplitl [Hd₀] <;> iassumption

/-- What is left beside the buffers at the end. -/
def fin (c : Dev nD) : sProp 𝕄 :=
  iprop(ctx m ρ K ∗ ows c 0 ∗ whP c cc0_stg0_0 (xstg m ρ c) ∗ whP c cc0_scratch0 (stageC m ρ c) ∗ whP c cc0_scratch1 (rsC m ρ c)
    ∗ barD c ∗ don c 0 ∗ don c 1 ∗ don c 2 ∗ don c 3)

/-- To the result: the second exchange's buffer whole again. -/
theorem move_result :
    iprop(ctx m ρ K ∗ (upto (wtA m ρ c 2) (wtB c 2) 7 ∗ upto (wtA m ρ c 3) (wtB c 3) 7) ∗ ows c (owed c 7 7 7)
          ∗ agRow c c (lend (Fin.last 7)) (agC m ρ) ∗ whP c cc0_scratch1 (rsC m ρ c) ∗ whP c cc0_scratch0 (stageC m ρ c) ∗ io m ρ c g
          ∗ barD c ∗ don c 0 ∗ don c 1)
      ⊢ iprop(whP c cc0_scratch2 (agC m ρ) ∗ whP c cc0_stg1_0 g ∗ fin m ρ K c) := by
  rw [upto_all, upto_all, ag_rows_pv, ag_lend, owed_none]
  unfold wtA fin io
  rw [bigSep_sep', bigSep_sep']
  iintro ⟨HC, ⟨⟨Hd₂, Has⟩, Hd₃, Hag⟩, HO, Ha, Hrs, Hst, ⟨Hx, Ho⟩, Hb, Hd₀, Hd₁⟩
  isplitl [Ha Has Hag]
  · isplitl [Ha Has]
    · isplitl [Ha]; · iexact Ha
      iexact Has
    iexact Hag
  isplitl [Ho]; · iexact Ho
  isplitl [HC]; · iexact HC
  isplitl [HO]; · iexact HO
  isplitl [Hx]; · iexact Hx
  isplitl [Hst]; · iexact Hst
  isplitl [Hrs]; · iexact Hrs
  isplitl [Hb]; · iexact Hb
  isplitl [Hd₀]; · iexact Hd₀
  isplitl [Hd₁]; · iexact Hd₁
  isplitl [Hd₂]; · unfold don; iexact Hd₂
  unfold don; iexact Hd₃

/-- A kind's cells, their one round over, close at zero. -/
theorem close_kind (κ : Fin 4) : iprop(ctx m ρ K ∗ don c κ) ⊢ iprop(|={Set.univ}=> bigSep Finset.univ fun k : Fin 7 => semVal (xC c κ k) 0) := by
  unfold don
  refine (sep_mono_left (BI.bigSep_of_persistent (Finset.univ : Finset (Fin 7)) (ctx m ρ K))).trans ?_
  rw [← bigSep_sep']
  refine (bigSep_mono fun k _ => (show iprop(ctx m ρ K ∗ atPos ER (xC c κ k) (0 + 1) ∅ 0) ⊢ iprop(|={Set.univ}=> semVal (xC c κ k) 0) from ?_)).trans (bigSep_fupd _ _)
  iintro ⟨HC, Hd⟩
  ihave HI := (ctx_cell m ρ K (c, .inr (κ, k))) $$ HC
  icases HI with ⟨HI, -⟩
  iapply (Rounds.cell_close ER (Rd m ρ) (Set.mem_univ (K (c, .inr (κ, k)))) (fun h => h) (R := 0 + 1) (duties_later m ρ (xC c κ k)))
  isplitl [HI]; · iexact HI
  iexact Hd

/-- So does the barrier's cell. -/
theorem close_bar : iprop(ctx m ρ K ∗ barD c) ⊢ iprop(|={Set.univ}=> semVal (barC c) 0) := by
  unfold barD
  iintro ⟨HC, Hd⟩
  ihave HI := (ctx_cell m ρ K (c, .inl ())) $$ HC
  icases HI with ⟨HI, -⟩
  iapply (Rounds.cell_close ER (Rd m ρ) (Set.mem_univ (K (c, .inl ()))) (fun h => h) (R := 0 + 1) (duties_later m ρ (barC c)))
  isplitl [HI]; · iexact HI
  iexact Hd

end Moves

end Cert.AllReduce

end
-- ==== Proof.Body.lean ====
/-
# 01_k: the kernel's body on one device

The fifty-odd effects of the body, one step each, from what the launch hands the device to the result buffer holding the sum
and every cell closed.
-/
module

public import proofs.«01_k».proof.Proof.Moves

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The addresses the kernel computes -/

/-- A device number computed as the launching device's plus a distance, round the eight. -/
theorem dev_at (k : Fin 7) (c : Dev nD) {w : ℕ} (hw : w < 8) (e : w = (c.val + (k.val + 1)) % 8) : (⟨w, hw⟩ : Dev nD) = nx k c := Fin.ext e

/-- The rows of the staging buffer sent at distance `k + 1`. -/
theorem off2_at (k : Fin 7) (c : Dev nD) {w : BitVec 32} (hw : w = BitVec.ofNat 32 (1 + k.val)) : k0_off2 c w = ![32 * (nx k c).val, 0] := by
  subst hw
  rw [k0_off2_eq, Nat.add_assoc]
  rfl

theorem hz2 : (![0, 0] : Fin 2 → ℕ) = fun _ => 0 := funext fun a => by fin_cases a <;> rfl
theorem hz3 : (![0, 0, 0] : Fin 3 → ℕ) = fun _ => 0 := funext fun a => by fin_cases a <;> rfl

/-! ## The waits on the two cells of one distance -/

/-- The waits on the send and the receive cell of one distance, one after the other. -/
theorem step_pair (K : Dev nD × CK → ℕ) (c : Dev nD) (k : Fin 7) (κ κ' : Fin 4)
    {α : Type} {Q : α → sProp 𝕄} {kk : PUnit → Prog (TpuEff nD τ sig (Elt F) Λ₀ .tc) α} {R : sProp 𝕄}
    {s s' : DmaSem sig} (hs : s = dsem κ k) (hs' : s' = dsem κ' k) {O : CellTallies nD τ sig Unit}
    (hM : (levAts L lv : sProp 𝕄) ⊢ MayWait (c : Thread nD τ) (.dma (dsem κ k)) () O)
    (hM' : (levAts L lv : sProp 𝕄) ⊢ MayWait (c : Thread nD τ) (.dma (dsem κ' k)) () O)
    {sp₁ sp₂ sp₃ sp₄ : Space} {sh₁ sh₂ sh₃ sh₄ : Shape} {e₁ e₂ e₃ e₄ : EltTy} {src : Memref sig .tc sp₁ sh₁ e₁} {dst : Memref sig .tc sp₂ sh₂ e₂}
    {src' : Memref sig .tc sp₃ sh₃ e₃} {dst' : Memref sig .tc sp₄ sh₄ e₄} (hN : dst.view.dmaCredit = N) (hN' : dst'.view.dmaCredit = N)
    {hsrc : src.view.WordExact} {hdst : dst.view.WordExact} {hsrc' : src'.view.WordExact} {hdst' : dst'.view.WordExact}
    (hk : iprop(ctx m ρ K ∗ (upto (wtA m ρ c κ) (wtB c κ) (k.val + 1) ∗ upto (wtA m ρ c κ') (wtB c κ') (k.val + 1)) ∗ ows c O ∗ R)
      ⊢ wp frame (wpE (defs₀ (F := F)) 𝒱₀ (c : Thread nD τ) none) Set.univ (kk ⟨⟩) Q) :
    iprop(ctx m ρ K ∗ (upto (wtA m ρ c κ) (wtB c κ) k.val ∗ upto (wtA m ρ c κ') (wtB c κ') k.val) ∗ ows c O ∗ R)
      ⊢ wp frame (wpE (defs₀ (F := F)) 𝒱₀ (c : Thread nD τ) none) Set.univ
          (.op (.waitDma2 s src dst hsrc hdst) fun _ => .op (.waitDma2 s' src' dst' hsrc' hdst') kk) Q := by
  refine BI.Entails.trans ?_ (step_wait m ρ K c k (R := iprop(upto (wtA m ρ c κ') (wtB c κ') k.val ∗ R)) κ hs hM hN
    (BI.Entails.trans ?_ (step_wait m ρ K c k (R := iprop(upto (wtA m ρ c κ) (wtB c κ) (k.val + 1) ∗ R)) κ' hs' hM' hN'
      (BI.Entails.trans ?_ hk))))
  · show iprop(ctx m ρ K ∗ (upto (wtA m ρ c κ) (wtB c κ) k.val ∗ upto (wtA m ρ c κ') (wtB c κ') k.val) ∗ ows c O ∗ R)
      ⊢ iprop(ctx m ρ K ∗ upto (wtA m ρ c κ) (wtB c κ) k.val ∗ ows c O ∗ upto (wtA m ρ c κ') (wtB c κ') k.val ∗ R)
    iintro ⟨HC, ⟨H₁, H₂⟩, HO, HR⟩
    isplitl [HC]; · iexact HC
    isplitl [H₁]; · iexact H₁
    isplitl [HO]; · iexact HO
    isplitl [H₂] <;> iassumption
  · show iprop(ctx m ρ K ∗ upto (wtA m ρ c κ) (wtB c κ) (k.val + 1) ∗ ows c O ∗ upto (wtA m ρ c κ') (wtB c κ') k.val ∗ R)
      ⊢ iprop(ctx m ρ K ∗ upto (wtA m ρ c κ') (wtB c κ') k.val ∗ ows c O ∗ upto (wtA m ρ c κ) (wtB c κ) (k.val + 1) ∗ R)
    iintro ⟨HC, H₁, HO, H₂, HR⟩
    isplitl [HC]; · iexact HC
    isplitl [H₂]; · iexact H₂
    isplitl [HO]; · iexact HO
    isplitl [H₁] <;> iassumption
  · show iprop(ctx m ρ K ∗ upto (wtA m ρ c κ') (wtB c κ') (k.val + 1) ∗ ows c O ∗ upto (wtA m ρ c κ) (wtB c κ) (k.val + 1) ∗ R)
      ⊢ iprop(ctx m ρ K ∗ (upto (wtA m ρ c κ) (wtB c κ) (k.val + 1) ∗ upto (wtA m ρ c κ') (wtB c κ') (k.val + 1)) ∗ ows c O ∗ R)
    iintro ⟨HC, H₁, HO, H₂, HR⟩
    isplitl [HC]; · iexact HC
    isplitl [H₁ H₂]
    · isplitl [H₂] <;> iassumption
    isplitl [HO] <;> iassumption

/-- The waits of the first exchange, made owing the second exchange's transfers; -/
theorem step_pair1 (K : Dev nD × CK → ℕ) (c : Dev nD) (k : Fin 7)
    {α : Type} {Q : α → sProp 𝕄} {kk : PUnit → Prog (TpuEff nD τ sig (Elt F) Λ₀ .tc) α} {R : sProp 𝕄}
    {s s' : DmaSem sig} (hs : s = dsem 0 k) (hs' : s' = dsem 1 k) {off off' h h'}
    {hsrc hdst hsrc' hdst'}
    (hk : iprop(ctx m ρ K ∗ (upto (wtA m ρ c 0) (wtB c 0) (k.val + 1) ∗ upto (wtA m ρ c 1) (wtB c 1) (k.val + 1)) ∗ ows c (owed c 7 7 0) ∗ R)
      ⊢ wp frame (wpE (defs₀ (F := F)) 𝒱₀ (c : Thread nD τ) none) Set.univ (kk ⟨⟩) Q) :
    iprop(ctx m ρ K ∗ (upto (wtA m ρ c 0) (wtB c 0) k.val ∗ upto (wtA m ρ c 1) (wtB c 1) k.val) ∗ ows c (owed c 7 7 0) ∗ R)
      ⊢ wp frame (wpE (defs₀ (F := F)) 𝒱₀ (c : Thread nD τ) none) Set.univ
          (.op (.waitDma2 s (rowV rsM off h) (blkV off' h') hsrc hdst) fun _ => .op (.waitDma2 s' (blkV off' h') (rowV rsM off h) hsrc' hdst') kk) Q :=
  step_pair m ρ K c k 0 1 hs hs'
    (mayWait c _ 7 7 0 2 ((lv_send1 c k).trans (by decide)) (.inr rfl) (.inr rfl) (.inl (by decide)))
    (mayWait c _ 7 7 0 2 (lv_rs c k).le (.inr rfl) (.inr rfl) (.inl (by decide)))
    (credit_st off' h') (credit_rs off h) hk

/-- and those of the second, made owing nothing. -/
theorem step_pair2 (K : Dev nD × CK → ℕ) (c : Dev nD) (k : Fin 7)
    {α : Type} {Q : α → sProp 𝕄} {kk : PUnit → Prog (TpuEff nD τ sig (Elt F) Λ₀ .tc) α} {R : sProp 𝕄}
    {s s' : DmaSem sig} (hs : s = dsem 2 k) (hs' : s' = dsem 3 k) {off h}
    {hsrc hdst hsrc' hdst'}
    (hk : iprop(ctx m ρ K ∗ (upto (wtA m ρ c 2) (wtB c 2) (k.val + 1) ∗ upto (wtA m ρ c 3) (wtB c 3) (k.val + 1)) ∗ ows c (owed c 7 7 7) ∗ R)
      ⊢ wp frame (wpE (defs₀ (F := F)) 𝒱₀ (c : Thread nD τ) none) Set.univ (kk ⟨⟩) Q) :
    iprop(ctx m ρ K ∗ (upto (wtA m ρ c 2) (wtB c 2) k.val ∗ upto (wtA m ρ c 3) (wtB c 3) k.val) ∗ ows c (owed c 7 7 7) ∗ R)
      ⊢ wp frame (wpE (defs₀ (F := F)) 𝒱₀ (c : Thread nD τ) none) Set.univ
          (.op (.waitDma2 s (rowV agM off h) (rowV agM off h) hsrc hdst) fun _ => .op (.waitDma2 s' (rowV agM off h) (rowV agM off h) hsrc' hdst') kk) Q :=
  step_pair m ρ K c k 2 3 hs hs'
    (mayWait c _ 7 7 7 3 ((lv_send2 c k).trans (by decide)) (.inr rfl) (.inr rfl) (.inr rfl))
    (mayWait c _ 7 7 7 3 (lv_ag c k).le (.inr rfl) (.inr rfl) (.inr rfl))
    (credit_ag off h) (credit_ag off h) hk

/-! ## The body -/

/-- What the body starts from, the buffers at any contents. -/
def bodyIn (K : Dev nD × CK → ℕ) (c : Dev nD) (f₀ : S256x256.Idx → Elt F .bf16) (f₁ f₂ : S8x32x256.Idx → Elt F .bf16) (g : S256x256.Idx → Elt F .f32) : sProp 𝕄 :=
  iprop(io m ρ c g ∗ whP c cc0_scratch0 f₀ ∗ whP c cc0_scratch1 f₁ ∗ whP c cc0_scratch2 f₂ ∗ ctx m ρ K ∗ ows c (owed c 0 0 0) ∗ tokB c ∗ barW c ∗ mid c ∗ late c)

/-- To the load of the block; -/
theorem move_in (K : Dev nD × CK → ℕ) (c : Dev nD) (f₀ f₁ f₂ g) : bodyIn (F := F) m ρ K c f₀ f₁ f₂ g
    ⊢ iprop(whP c cc0_stg0_0 (xstg m ρ c) ∗ whP c cc0_scratch0 f₀ ∗ whP c cc0_stg1_0 g ∗ whP c cc0_scratch1 f₁ ∗ whP c cc0_scratch2 f₂
    ∗ ctx m ρ K ∗ ows c (owed c 0 0 0) ∗ tokB c ∗ barW c ∗ mid c ∗ late c) := by
  unfold bodyIn io
  iintro ⟨⟨Hx, Ho⟩, Hst, HR⟩
  isplitl [Hx]; · iexact Hx
  isplitl [Hst]; · iexact Hst
  isplitl [Ho] <;> iassumption

/-- from its store. -/
theorem move_staged (K : Dev nD × CK → ℕ) (c : Dev nD) (f₁ f₂ g) :
    iprop(whP c cc0_scratch0 (stageC m ρ c) ∗ whP c cc0_stg0_0 (xstg m ρ c) ∗ whP c cc0_stg1_0 g ∗ whP c cc0_scratch1 f₁ ∗ whP c cc0_scratch2 f₂
      ∗ ctx m ρ K ∗ ows c (owed c 0 0 0) ∗ tokB c ∗ barW c ∗ mid c ∗ late c)
    ⊢ iprop(whP c cc0_scratch0 (stageC m ρ c) ∗ io (F := F) m ρ c g ∗ whP c cc0_scratch1 f₁ ∗ whP c cc0_scratch2 f₂
      ∗ ctx m ρ K ∗ ows c (owed c 0 0 0) ∗ tokB c ∗ barW c ∗ mid c ∗ late c) := by
  unfold io
  iintro ⟨Hst, Hx, Ho, HR⟩
  isplitl [Hst]; · iexact Hst
  isplitl [Hx Ho]
  · isplitl [Hx] <;> iassumption
  iexact HR

/-- What it ends with. -/
def bodyOut (c : Dev nD) : sProp 𝕄 :=
  iprop((whP c cc0_scratch0 (stageC m ρ c) ∗ whP c cc0_scratch1 (rsC m ρ c) ∗ whP c cc0_scratch2 (agC m ρ))
    ∗ ((bigSep Finset.univ fun κ : Fin 4 => bigSep Finset.univ fun k : Fin 7 => semVal (xC c κ k) 0) ∗ semVal (barC c) 0)
    ∗ ows c 0 ∗ whP c cc0_stg0_0 (xstg m ρ c) ∗ whP c cc0_stg1_0 (outC m ρ))

/-- A family over the four kinds, written out. -/
theorem four_kinds {M : Type} [URA M] (Φ : Fin 4 → sProp M) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

/-- With the result stored and the second exchange's buffer whole, every cell closes. -/
theorem body_end (K : Dev nD × CK → ℕ) (c : Dev nD) :
    iprop(whP c cc0_stg1_0 (outC m ρ) ∗ whP c cc0_scratch2 (agC m ρ) ∗ fin m ρ K c) ⊢ iprop(|={Set.univ}=> bodyOut m ρ c) := by
  unfold fin
  iintro ⟨Ho, Hag, #HC, HO, Hx, Hst, Hrs, Hb, Hd₀, Hd₁, Hd₂, Hd₃⟩
  imod (close_bar m ρ K c) $$ [Hb] with Hb
  · isplitr; · iexact HC
    iexact Hb
  imod (close_kind m ρ K c 0) $$ [Hd₀] with Hd₀
  · isplitr; · iexact HC
    iexact Hd₀
  imod (close_kind m ρ K c 1) $$ [Hd₁] with Hd₁
  · isplitr; · iexact HC
    iexact Hd₁
  imod (close_kind m ρ K c 2) $$ [Hd₂] with Hd₂
  · isplitr; · iexact HC
    iexact Hd₂
  imod (close_kind m ρ K c 3) $$ [Hd₃] with Hd₃
  · isplitr; · iexact HC
    iexact Hd₃
  imodintro
  unfold bodyOut
  rw [four_kinds]
  isplitl [Hst Hrs Hag]
  · isplitl [Hst]; · iexact Hst
    isplitl [Hrs] <;> iassumption
  isplitl [Hb Hd₀ Hd₁ Hd₂ Hd₃]
  · isplitr [Hb]
    · isplitl [Hd₀]; · iexact Hd₀
      isplitl [Hd₁]; · iexact Hd₁
      isplitl [Hd₂] <;> iassumption
    iexact Hb
  isplitl [HO]; · iexact HO
  isplitl [Hx] <;> iassumption

abbrev bodyProg : Prog (TpuEff nD τ sig (Elt F) Λ₀ .tc) PUnit :=
  cc0_body (Memref.whole cc0_stg0_0) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) cc0_scratch3 cc0_scratch4 cc0_scratch5 cc0_scratch6

set_option maxHeartbeats 4000000 in
set_option maxRecDepth 8000 in
/-- The body, effect by effect. -/
theorem sound_body (K : Dev nD × CK → ℕ) (c : Dev nD) (f₀ f₁ f₂ g) :
    bodyIn m ρ K c f₀ f₁ f₂ g ⊢ wp frame (wpE (defs₀ (F := F)) 𝒱₀ (c : Thread nD τ) none) Set.univ bodyProg (fun _ => bodyOut m ρ c) := by
  unfold bodyProg
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel
  simp only [semSignalWord, semWaitWord, Prog.lift, Prog.bind_op, Prog.bind_ret, Prog.pure_eq_ret, wp_deviceId]
  -- the device's block, into the staging buffer
  refine (move_in m ρ K c f₀ f₁ f₂ g).trans ?_
  refine step_load c xM (Finset.subset_univ _) (by exact Memref.readAt_unit_zero (Elt F) cc0_stg0_0 hz3 _ (xstg m ρ c)) rfl ?_
  refine swap ?_
  refine step_load c stM (Finset.subset_univ _) (by exact Memref.readAt_unit_zero (Elt F) cc0_scratch0 hz2 _ f₀) rfl ?_
  refine step_store c stM (Finset.subset_univ _) (by exact fun i _ => congrFun (Memref.write_access_unit_zero_univ (Elt F) cc0_scratch0 hz2 _ f₀ (stageC m ρ c)) i) rfl rfl ?_
  refine (move_staged m ρ K c f₁ f₂ g).trans ?_
  -- a signal to every peer, and the wait for theirs
  refine (move_signals m ρ K c g f₁ f₂).trans ?_
  refine step_signal m ρ K c 0 (dev_at 0 c _ (k0_dev1_eq c)) rfl rfl ?_
  refine step_signal m ρ K c 1 (dev_at 1 c _ (k0_dev2_eq c)) rfl rfl ?_
  refine step_signal m ρ K c 2 (dev_at 2 c _ (k0_dev3_eq c)) rfl rfl ?_
  refine step_signal m ρ K c 3 (dev_at 3 c _ (k0_dev4_eq c)) rfl rfl ?_
  refine step_signal m ρ K c 4 (dev_at 4 c _ (k0_dev5_eq c)) rfl rfl ?_
  refine step_signal m ρ K c 5 (dev_at 5 c _ (k0_dev6_eq c)) rfl rfl ?_
  refine step_signal m ρ K c 6 (dev_at 6 c _ (k0_dev7_eq c)) rfl rfl ?_
  refine (move_barrier m ρ K c g f₁ f₂).trans ?_
  refine step_bar m ρ K c rfl rfl ?_
  -- the block's rows to every peer, its own into place
  refine (move_tx1 m ρ K c g f₁ f₂).trans ?_
  refine step_tx1 m ρ K c 0 (dev_at 0 c _ (k0_dev8_eq c)) rfl rfl (k0_off1_eq c) (off2_at 0 c rfl) ?_
  refine step_tx1 m ρ K c 1 (dev_at 1 c _ (k0_dev9_eq c)) rfl rfl (k0_off1_eq c) (off2_at 1 c rfl) ?_
  refine step_tx1 m ρ K c 2 (dev_at 2 c _ (k0_dev10_eq c)) rfl rfl (k0_off1_eq c) (off2_at 2 c rfl) ?_
  refine step_tx1 m ρ K c 3 (dev_at 3 c _ (k0_dev11_eq c)) rfl rfl (k0_off1_eq c) (off2_at 3 c rfl) ?_
  refine step_tx1 m ρ K c 4 (dev_at 4 c _ (k0_dev12_eq c)) rfl rfl (k0_off1_eq c) (off2_at 4 c rfl) ?_
  refine step_tx1 m ρ K c 5 (dev_at 5 c _ (k0_dev13_eq c)) rfl rfl (k0_off1_eq c) (off2_at 5 c rfl) ?_
  refine step_tx1 m ρ K c 6 (dev_at 6 c _ (k0_dev14_eq c)) rfl rfl (k0_off1_eq c) (off2_at 6 c rfl) ?_
  refine (move_own m ρ K c g f₁ f₂).trans ?_
  refine step_load c stM ((View.set_slice_whole _ _).trans (blkRect_set c _ _ (k0_off3_eq c))).subset rfl rfl ?_
  refine swap ?_
  refine step_load c rsM ((View.set_slice_whole _ _).trans (rowRect_set c _ _ (k0_off4_eq c))).subset rfl rfl ?_
  refine step_store c rsM ((View.set_slice_whole _ _).trans (rowRect_set c _ _ (k0_off4_eq c))).subset
    (by exact stored_rs m ρ c _ _ (k0_off4_eq c) _ _ (k0_off3_eq c) f₁) rfl rfl ?_
  -- the peers' rows
  refine (move_wait1 m ρ K c g f₂).trans ?_
  refine step_pair1 m ρ K c 0 rfl rfl ?_
  refine step_pair1 m ρ K c 1 rfl rfl ?_
  refine step_pair1 m ρ K c 2 rfl rfl ?_
  refine step_pair1 m ρ K c 3 rfl rfl ?_
  refine step_pair1 m ρ K c 4 rfl rfl ?_
  refine step_pair1 m ρ K c 5 rfl rfl ?_
  refine step_pair1 m ρ K c 6 rfl rfl ?_
  -- the sum, into place
  refine (move_reduce m ρ K c g f₂).trans ?_
  refine step_load c rsM (Finset.subset_univ _) (by exact Memref.readAt_unit_zero (Elt F) cc0_scratch1 hz3 _ (rsC m ρ c)) rfl ?_
  refine swap ?_
  refine step_load c agM ((View.set_slice_whole _ _).trans (rowRect_set c _ _ (k0_off4_eq c))).subset rfl rfl ?_
  refine step_store c agM ((View.set_slice_whole _ _).trans (rowRect_set c _ _ (k0_off4_eq c))).subset (by exact stored_ag m ρ c _ _ (k0_off4_eq c) f₂) rfl rfl ?_
  -- the sum's row to every peer, and theirs
  refine (move_tx2 m ρ K c g).trans ?_
  refine step_tx2 m ρ K c 0 (dev_at 0 c _ (k0_dev15_eq c)) rfl rfl (k0_off1_eq c) ?_
  refine step_tx2 m ρ K c 1 (dev_at 1 c _ (k0_dev16_eq c)) rfl rfl (k0_off1_eq c) ?_
  refine step_tx2 m ρ K c 2 (dev_at 2 c _ (k0_dev17_eq c)) rfl rfl (k0_off1_eq c) ?_
  refine step_tx2 m ρ K c 3 (dev_at 3 c _ (k0_dev18_eq c)) rfl rfl (k0_off1_eq c) ?_
  refine step_tx2 m ρ K c 4 (dev_at 4 c _ (k0_dev19_eq c)) rfl rfl (k0_off1_eq c) ?_
  refine step_tx2 m ρ K c 5 (dev_at 5 c _ (k0_dev20_eq c)) rfl rfl (k0_off1_eq c) ?_
  refine step_tx2 m ρ K c 6 (dev_at 6 c _ (k0_dev21_eq c)) rfl rfl (k0_off1_eq c) ?_
  refine (move_wait2 m ρ K c g).trans ?_
  refine step_pair2 m ρ K c 0 rfl rfl ?_
  refine step_pair2 m ρ K c 1 rfl rfl ?_
  refine step_pair2 m ρ K c 2 rfl rfl ?_
  refine step_pair2 m ρ K c 3 rfl rfl ?_
  refine step_pair2 m ρ K c 4 rfl rfl ?_
  refine step_pair2 m ρ K c 5 rfl rfl ?_
  refine step_pair2 m ρ K c 6 rfl rfl ?_
  -- the result
  refine (move_result m ρ K c g).trans ?_
  refine step_load c agM (Finset.subset_univ _) (by exact Memref.readAt_unit_zero (Elt F) cc0_scratch2 hz3 _ (agC m ρ)) rfl ?_
  refine swap ?_
  refine step_load c oM (Finset.subset_univ _) rfl rfl ?_
  refine step_store c oM (Finset.subset_univ _) (by exact fun i _ => congrFun (Memref.write_access_unit_zero_univ (Elt F) cc0_stg1_0 hz2 _ g (outC m ρ)) i) rfl rfl ?_
  rw [wp_ret]
  exact body_end m ρ K c

end Cert.AllReduce

end
-- ==== Proof.Deal.lean ====
/-
# 01_k: the launch's ghost state, dealt to the devices

The launch funds one round state, position and token per protocol cell and duty. The cells' invariants are made from the round
states and the counters at zero; each token goes to the device that pays its duty, the peer `k + 1` places before the cell's device
for the barrier's duty `k` and for the receive cells at distance `k + 1`.
-/
module

public import proofs.«01_k».proof.Proof.Body
public import Idealize.ShloMosaic.Lib.Pipeline.Launch

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells and duties -/

omit [FloatOps F] in
/-- A family over a device's cells: the barrier's member, then the transfer cells' kind by kind. -/
theorem over_cells (Φ : CK → sProp 𝕄) : bigSep Finset.univ Φ
    = iprop(Φ (.inl ()) ∗ bigSep Finset.univ fun κ : Fin 4 => bigSep Finset.univ fun k : Fin 7 => Φ (.inr (κ, k))) := by
  rw [bigSep_univ_sum, bigSep_univ_prod, show (Finset.univ : Finset Unit) = {()} from rfl, bigSep_singleton]
  rfl

/-- A device's duties: the barrier's seven, then one per transfer cell. -/
abbrev DK : Type := Fin 7 ⊕ (Fin 4 × Fin 7)
/-- The token of a duty: its cell, round 0, its name. -/
abbrev tokOf (x : Dev nD × DK) : GSem nD τ sig × ℕ × Fin 7 :=
  Sum.elim (fun j => (barC x.1, 0, j)) (fun p => (xC x.1 p.1 p.2, 0, 0)) x.2

theorem tokOf_injective : Function.Injective tokOf := by
  rintro ⟨c, x⟩ ⟨c', x'⟩ h
  have h1 : c = c' := by
    have := congrArg (fun y : GSem nD τ sig × ℕ × Fin 7 => y.1.1.1) h
    rcases x with j | p <;> rcases x' with j' | p' <;> exact this
  have h2 := congrArg (fun y : GSem nD τ sig × ℕ × Fin 7 => (kindOf y.1.2, y.2.2)) h
  refine Prod.ext h1 ?_
  rcases x with j | ⟨κ, k⟩ <;> rcases x' with j' | ⟨κ', k'⟩
  · exact congrArg Sum.inl (congrArg Prod.snd h2 : j = j')
  · have h3 : kindOf (.reg barS) = kindOf (.dma (dsem κ' k')) := congrArg Prod.fst h2
    rw [kindOf_bar, kindOf_dsem] at h3
    exact absurd (Option.some.inj h3) (by simp)
  · have h3 : kindOf (.dma (dsem κ k)) = kindOf (.reg barS) := congrArg Prod.fst h2
    rw [kindOf_bar, kindOf_dsem] at h3
    exact absurd (Option.some.inj h3) (by simp)
  · have h3 : kindOf (.dma (dsem κ k)) = kindOf (.dma (dsem κ' k')) := congrArg Prod.fst h2
    rw [kindOf_dsem, kindOf_dsem] at h3
    exact congrArg Sum.inr (Sum.inr.inj (Option.some.inj h3))

/-- Every protocol cell of the eight devices; every duty's token. -/
def allCells : Finset (GSem nD τ sig) := Finset.univ.map ⟨kcell, kcell_injective⟩
def allToks : Finset (GSem nD τ sig × ℕ × Fin 7) := Finset.univ.map ⟨tokOf, tokOf_injective⟩

/-- The launch's element: the staging pipeline's cells and the protocol's. -/
def u₀ : UU := (initOf (Pipeline.cells cfgs cellOf_inj) (Pipeline.launchToks cfgs cellOf_inj), initOf allCells allToks)

/-! ## What each device is first given -/

/-- The tokens of the duties on `c`'s own cells. -/
def minted (c : Dev nD) : sProp 𝕄 :=
  iprop((bigSep Finset.univ fun j : Fin 7 => dutyTok ER (barC c) 0 j) ∗ tokS c 0 ∗ tokS c 1 ∗ tokS c 2 ∗ tokS c 3)
/-- The positions in round 0 of `c`'s own cells. -/
def placed (c : Dev nD) : sProp 𝕄 := iprop(atPos ER (barC c) 0 ∅ 0 ∗ pos c 0 ∗ pos c 1 ∗ pos c 2 ∗ pos c 3)
/-- What the funding gives device `c`. -/
def funded (c : Dev nD) : sProp 𝕄 :=
  iprop((bigSep Finset.univ fun x : CK => roundState ER (Rd m ρ) (kcell (c, x)) 0)
    ∗ (bigSep Finset.univ fun x : CK => reached ER (kcell (c, x)) 0) ∗ placed c ∗ minted c)
/-- What device `c` holds once the tokens are dealt: those it pays with. -/
def dealt (c : Dev nD) : sProp 𝕄 := iprop(placed c ∗ tokB c ∗ tokS c 0 ∗ tokR c 1 ∗ tokS c 2 ∗ tokR c 3)
/-- And with the records. -/
def given (c : Dev nD) : sProp 𝕄 := iprop((∃ K, records m ρ K) ∗ dealt c)

omit [FloatOps F] in
theorem over_allCells (Φ : GSem nD τ sig → sProp 𝕄) :
    bigSep allCells Φ = bigSep Finset.univ fun c : Dev nD => bigSep Finset.univ fun x : CK => Φ (kcell (c, x)) := by
  unfold allCells; rw [bigSep_map, bigSep_univ_prod]; rfl

omit [FloatOps F] in
theorem placed_eq (c : Dev nD) : (bigSep Finset.univ fun x : CK => atPos ER (kcell (c, x)) 0 ∅ 0) = placed (F := F) c := by
  rw [over_cells, four_kinds]; rfl

omit [FloatOps F] in
theorem over_allToks : bigSep allToks (fun x => (dutyTok ER x.1 x.2.1 x.2.2 : sProp 𝕄)) = bigSep Finset.univ fun c : Dev nD => minted c := by
  unfold allToks
  rw [bigSep_map, bigSep_univ_prod]
  refine bigSep_congr fun c _ => ?_
  rw [bigSep_univ_sum, bigSep_univ_prod, four_kinds]
  rfl

/-- The funding. -/
theorem fund_all : BI.own (ER (initOf allCells allToks)) ⊢ (|==> bigSep Finset.univ (funded m ρ) : sProp 𝕄) := by
  iintro HX
  imod (Rounds.fund ER (Rd m ρ) allCells allToks) $$ HX with ⟨Hst, Hr, Hat, Htok⟩
  imodintro
  ihave Hst' := (Entails.of_eq (over_allCells fun g => roundState ER (Rd m ρ) g 0)) $$ Hst
  ihave Hr' := (Entails.of_eq (over_allCells (F := F) fun g => reached ER g 0)) $$ Hr
  ihave Hat' := (Entails.of_eq ((over_allCells (F := F) fun g => atPos ER g 0 ∅ 0).trans (bigSep_congr fun c _ => placed_eq c))) $$ Hat
  ihave Htok' := (Entails.of_eq (over_allToks (F := F))) $$ Htok
  unfold funded
  simp only [bigSep_sep']
  isplitl [Hst']; · iexact Hst'
  isplitl [Hr']; · iexact Hr'
  isplitl [Hat']; · iexact Hat'
  iexact Htok'

/-! ## The counters at zero, and the invariants made from them -/

omit [FloatOps F] in
/-- The kernel's own semaphores are the four kinds' seven each; -/
theorem own_sems (c : Dev nD) : (Pipeline.ownSems0 (Ix := Unit) (Name := ℕ) (U := UU) (Lvl := ℕ) (Val := Elt F) (τ := τ) osem c : sProp 𝕄)
    = bigSep Finset.univ fun κ : Fin 4 => bigSep Finset.univ fun k : Fin 7 => semVal (xC c κ k) 0 := by
  unfold Pipeline.ownSems0; rw [bigSep_univ_prod]
omit [FloatOps F] in
/-- the barrier's is the launch's one unscoped one. -/
theorem unscoped_sems (c : Dev nD) : (unscopedSems0 c : sProp 𝕄) = semVal (barC c) 0 := by
  unfold unscopedSems0; rw [bigSep_eq_bigSepL_of_eq [SemLoc.reg barS] (by decide) (by decide)]; rfl

/-- One device's counters and round states become its cells' invariants. -/
theorem alloc_cells (c : Dev nD) :
    iprop(Pipeline.ownSems0 (Ix := Unit) (Name := ℕ) (U := UU) (Lvl := ℕ) (Val := Elt F) (τ := τ) osem c ∗ unscopedSems0 c ∗ funded m ρ c)
      ⊢ |={Set.univ}=> iprop((bigSep Finset.univ fun x : CK => iprop(∃ κ : ℕ, cellInv ER (Rd m ρ) κ (kcell (c, x))))
          ∗ (bigSep Finset.univ fun x : CK => reached ER (kcell (c, x)) 0) ∗ placed c ∗ minted c) := by
  have hinv : iprop((bigSep Finset.univ fun x : CK => semVal (kcell (c, x)) 0) ∗ bigSep Finset.univ fun x : CK => roundState ER (Rd m ρ) (kcell (c, x)) 0)
      ⊢ (|={Set.univ}=> bigSep Finset.univ fun x : CK => iprop(∃ κ : ℕ, cellInv ER (Rd m ρ) κ (kcell (c, x))) : sProp 𝕄) := by
    rw [← bigSep_sep']
    exact (bigSep_mono fun x _ => (Rounds.body_intro ER (Rd m ρ) (kcell (c, x))).trans inv_alloc).trans (bigSep_fupd _ _)
  have hv : iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
    rw [own_sems, unscoped_sems, over_cells]
    iintro ⟨HX, HB⟩
    isplitl [HB]; · iexact HB
    iexact HX
  unfold funded
  iintro ⟨Ho, Hu, Hst, HR⟩
  ihave Hv := hv $$ [Ho Hu]
  · isplitl [Ho] <;> iassumption
  imod hinv $$ [Hv Hst] with HI
  · isplitl [Hv] <;> iassumption
  imodintro
  isplitl [HI]; · iexact HI
  iexact HR

/-! ## The tokens dealt -/

omit [FloatOps F] in
/-- A family over devices and distances, each member given to the device from which its own is reached at that distance. -/
theorem around (Φ : Dev nD → Fin 7 → sProp 𝕄) : (bigSep Finset.univ fun c => bigSep Finset.univ fun k => Φ c k)
    = bigSep Finset.univ fun c => bigSep Finset.univ fun k => Φ (nx k c) k := by
  rw [BI.bigSep_univ_comm, BI.bigSep_univ_comm (fun c k => Φ (nx k c) k)]
  exact bigSep_congr fun k _ => bigSep_univ_equiv (shift k) fun c => Φ c k

omit [FloatOps F] in
theorem deal : (bigSep Finset.univ fun c : Dev nD => iprop(placed (F := F) c ∗ minted c)) ⊢ bigSep Finset.univ fun c : Dev nD => dealt c := by
  have h₁ : (bigSep Finset.univ fun c : Dev nD => tokS (F := F) c 1) = bigSep Finset.univ fun c : Dev nD => tokR c 1 :=
    around fun c k => dutyTok ER (xC c 1 k) 0 0
  have h₃ : (bigSep Finset.univ fun c : Dev nD => tokS (F := F) c 3) = bigSep Finset.univ fun c : Dev nD => tokR c 3 :=
    around fun c k => dutyTok ER (xC c 3 k) 0 0
  have h₀ : (bigSep Finset.univ fun c : Dev nD => bigSep Finset.univ fun j : Fin 7 => (dutyTok ER (barC c) 0 j : sProp 𝕄))
      = bigSep Finset.univ fun c : Dev nD => tokB c := around fun c k => dutyTok ER (barC c) 0 k
  unfold minted dealt
  simp only [bigSep_sep']
  rw [h₀, h₁, h₃]

theorem over_devs {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem gather :
    (bigSep Finset.univ fun c : Dev nD => iprop((bigSep Finset.univ fun x : CK => iprop(∃ κ : ℕ, cellInv ER (Rd m ρ) κ (kcell (c, x))))
          ∗ (bigSep Finset.univ fun x : CK => reached ER (kcell (c, x)) 0) ∗ placed c ∗ minted c) : sProp 𝕄)
      ⊢ bigSep Finset.univ (given m ρ) := by
  have hrec (K : Dev nD × CK → ℕ) : iprop((bigSep Finset.univ fun ck : Dev nD × CK => cellInv ER (Rd m ρ) (K ck) (kcell ck))
      ∗ bigSep Finset.univ fun ck : Dev nD × CK => reached ER (kcell ck) 0) ⊢ (records m ρ K : sProp 𝕄) := by
    unfold records; rw [bigSep_sep']
  rw [bigSep_sep', bigSep_sep', ← bigSep_univ_prod (fun ck : Dev nD × CK => iprop(∃ κ : ℕ, cellInv ER (Rd m ρ) κ (kcell ck))),
    ← bigSep_univ_prod (fun ck : Dev nD × CK => (reached ER (kcell ck) 0 : sProp 𝕄))]
  iintro ⟨HI, HR, Hd⟩
  ihave HK := (BI.bigSep_exists_pi Finset.univ (fun (ck : Dev nD × CK) (κ : ℕ) => (cellInv ER (Rd m ρ) κ (kcell ck) : sProp 𝕄))) $$ HI
  icases HK with ⟨%K, HI⟩
  ihave #HC := (hrec K) $$ [HI HR]
  · isplitl [HI] <;> iassumption
  ihave Hd' := (deal (F := F)) $$ Hd
  iapply (over_devs (R := records m ρ K) (Φ := dealt) (Ψ := given m ρ) fun c => by
    unfold given
    iintro ⟨HC, Hd⟩
    isplitl [HC]; · iexists K; iexact HC
    iexact Hd)
  isplitr; · iexact HC
  iexact Hd'

/-- The launch's step over all devices at once. -/
theorem deal_all : (bigSep Finset.univ fun c => iprop(Pipeline.ownSems0 (Ix := Unit) (Name := ℕ) (U := UU) (Lvl := ℕ) (Val := Elt F) (τ := τ) osem c
      ∗ unscopedSems0 c ∗ funded m ρ c) : sProp 𝕄)
    ⊢ |={Set.univ}=> bigSep Finset.univ (given m ρ) :=
  ((bigSep_mono fun c _ => alloc_cells m ρ c).trans (bigSep_fupd _ _)).trans (BI.fupd_mono (gather m ρ))

/-! ## The credits the launch gives -/

omit [FloatOps F] in
/-- Single units of credit on a cell, put together. -/
theorem units (g : GSem nD τ sig) (s : Finset (Fin 7)) :
    (bigSep s fun _ => (cred (tallyAt g () 1) : sProp 𝕄)) ⊢ cred (tallyAt g () s.card) := by
  induction s using Finset.induction_on with
  | empty => rw [bigSep_empty, Finset.card_empty, tallyAt_zero, cred_zero]; exact BI.Entails.refl _
  | insert a s ha ih =>
    rw [bigSep_insert ha, Finset.card_insert_of_notMem ha, Nat.add_comm, ← tallyAt_add]
    exact (sep_mono_right ih).trans (cred_add _ _).2

omit [FloatOps F] in
/-- What all the devices owe device `c` at launch is what it waits for. -/
theorem credits (c : Dev nD) : (Pipeline.launchCred (fun d => owed d 0 0 0) c : sProp 𝕄)
    ⊢ iprop(cred (tallyAt (barC c) () 7) ∗ crds c 1 ∗ crds c 3) := by
  have e : (fun d => owed d 0 0 0) = fun d : Dev nD => ((∑ k : Fin 7, tallyAt (barC (nx k d)) () 1) + ∑ k : Fin 7, tallyAt (xC (nx k d) 1 k) () N)
      + ∑ k : Fin 7, tallyAt (xC (nx k d) 3 k) () N := funext fun d => by unfold owed; rw [ow_all, ow_all, ow_all]
  have hb : (Pipeline.launchCred (fun d : Dev nD => ∑ k : Fin 7, tallyAt (barC (nx k d)) () 1) c : sProp 𝕄) ⊢ cred (tallyAt (barC c) () 7) := by
    rw [Pipeline.launchCred_sum Finset.univ (fun (k : Fin 7) (d : Dev nD) => tallyAt (barC (nx k d)) () 1)]
    exact (bigSep_mono fun k _ => Pipeline.launchCred_tallyAt (.reg barS) (nx k) (pv k) (nx_pv k) (pv_nx k) () 1 c).trans (units (barC c) Finset.univ)
  have hx (κ : Fin 4) : (Pipeline.launchCred (fun d : Dev nD => ∑ k : Fin 7, tallyAt (xC (nx k d) κ k) () N) c : sProp 𝕄) ⊢ crds c κ := by
    rw [Pipeline.launchCred_sum Finset.univ (fun (k : Fin 7) (d : Dev nD) => tallyAt (xC (nx k d) κ k) () N)]
    exact bigSep_mono fun k _ => Pipeline.launchCred_tallyAt (.dma (dsem κ k)) (nx k) (pv k) (nx_pv k) (pv_nx k) () N c
  rw [e, Pipeline.launchCred_add, Pipeline.launchCred_add]
  iintro ⟨⟨Hb, H₁⟩, H₃⟩
  isplitl [Hb]; · iapply hb; iexact Hb
  isplitl [H₁]; · iapply (hx 1); iexact H₁
  iapply (hx 3); iexact H₃

end Cert.AllReduce

end
-- ==== Proof.Launch.lean ====
/-
# 01_k: the launch and the run

The region on every device: what it starts from, what it leaves, the body's obligation, and the run of the eight devices together,
with the arrays' final contents.
-/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Quiescent

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch hands a device, and what the device leaves -/

/-- Everything but the scratch buffers. -/
def start (c : Dev nD) : sProp 𝕄 := iprop((∃ K, ctx m ρ K) ∗ tokB c ∗ barW c ∗ mid c ∗ late c)
/-- Before the body. -/
def before (c : Dev nD) : sProp 𝕄 :=
  iprop(start m ρ c ∗ (∃ f, whP c cc0_scratch0 f) ∗ (∃ f, whP c cc0_scratch1 f) ∗ ∃ f, whP c cc0_scratch2 f)
/-- After the body. -/
def afterB (c : Dev nD) : sProp 𝕄 :=
  iprop((whP c cc0_scratch0 (stageC m ρ c) ∗ whP c cc0_scratch1 (rsC m ρ c) ∗ whP c cc0_scratch2 (agC m ρ))
    ∗ (bigSep Finset.univ fun κ : Fin 4 => bigSep Finset.univ fun k : Fin 7 => semVal (xC c κ k) 0) ∗ semVal (barC c) 0)

/-- The region's data: the block window holds the device's block, the result window the sum; the debts are paid at the one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ
  Φ t := match t with
    | ⟨0, _⟩ => before m ρ c
    | ⟨_ + 1, _⟩ => afterB m ρ c
  q _ := fullShare
  owed t := match t with
    | ⟨0, _⟩ => owed c 0 0 0
    | ⟨_ + 1, _⟩ => 0

/-- The one grid point. -/
abbrev t₀ : Fin cfg0.N := t0_0

/-- A staging buffer held whole at contents known by an equation. -/
def held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

omit [FloatOps F] in
theorem held_eq (c : Dev nD) (b : Ref sig .tc) (X : b.ty.Contents (Elt F)) : held c b X ⊢ (whP c b X : sProp 𝕄) := by
  unfold held whP
  iintro ⟨%f, %e, H⟩
  subst e
  iexact H
omit [FloatOps F] in
theorem held_intro (c : Dev nD) (b : Ref sig .tc) (X : b.ty.Contents (Elt F)) : (whP c b X : sProp 𝕄) ⊢ held c b X := by
  unfold held whP
  iintro H
  iexists X
  isplitr; · ipureintro; rfl
  iexact H

set_option maxRecDepth 4000 in
def bodyPre (c : Dev nD) : sProp 𝕄 :=
  iprop(before m ρ c ∗ (dats m ρ 0 c).owesAt () t₀.castSucc
    ∗ (∃ d, held c cc0_stg0_0 ((dats m ρ 0 c).before (0 : Fin 2) t₀ d))
    ∗ (∃ d, held c cc0_stg1_0 ((dats m ρ 0 c).before (1 : Fin 2) t₀ d)))
set_option maxRecDepth 4000 in
def bodyPost (c : Dev nD) : sProp 𝕄 :=
  iprop(afterB m ρ c ∗ (dats m ρ 0 c).owesAt () t₀.succ ∗ held c cc0_stg0_0 (xstg m ρ c) ∗ held c cc0_stg1_0 (outC m ρ))

set_option maxRecDepth 4000 in
/-- The staged block is the device's block of `x`. -/
theorem before_block (c : Dev nD) (d) : (dats m ρ 0 c).before (0 : Fin 2) t₀ d = xstg m ρ c := by
  unfold Dat.before; rw [if_pos (fetch0_0 t₀)]; rfl

set_option maxRecDepth 4000 in
/-- What the region hands the body is what the body starts from, at some contents; -/
theorem bodyPre_in (c : Dev nD) : bodyPre m ρ c ⊢ iprop(∃ K f₀ f₁ f₂ g, bodyIn m ρ K c f₀ f₁ f₂ g) := by
  unfold bodyPre before start bodyIn io ows Dat.owesAt Pipeline.owesWithin
  iintro ⟨⟨⟨⟨%K, HC⟩, Ht, Hb, Hm, Hl⟩, ⟨%f₀, H₀⟩, ⟨%f₁, H₁⟩, %f₂, H₂⟩, ⟨%W, %hW, HO⟩, ⟨%d, Hx⟩, %d', Hout⟩
  iexists K; iexists f₀; iexists f₁; iexists f₂; iexists ((dats m ρ 0 c).before (1 : Fin 2) t₀ d')
  ihave Hx' := (held_eq c cc0_stg0_0 _) $$ Hx
  ihave Hx'' := (Entails.of_eq (congrArg (whP c cc0_stg0_0) (before_block m ρ c d))) $$ Hx'
  ihave Hout' := (held_eq c cc0_stg1_0 _) $$ Hout
  isplitl [Hx'' Hout']
  · isplitl [Hx''] <;> iassumption
  isplitl [H₀]; · iexact H₀
  isplitl [H₁]; · iexact H₁
  isplitl [H₂]; · iexact H₂
  isplitl [HC]; · iexact HC
  isplitl [HO]; · iexists W; iexact HO
  isplitl [Ht]; · iexact Ht
  isplitl [Hb]; · iexact Hb
  isplitl [Hm] <;> iassumption

set_option maxRecDepth 4000 in
/-- what the body ends with is what the region takes back. -/
theorem bodyOut_post (c : Dev nD) : bodyOut m ρ c ⊢ bodyPost m ρ c := by
  unfold bodyPost afterB bodyOut ows Dat.owesAt Pipeline.owesWithin
  iintro ⟨Hw, ⟨Hs, Hb⟩, ⟨%W, HO⟩, Hx, Ho⟩
  ihave Hx' := (held_intro c cc0_stg0_0 _) $$ Hx
  ihave Ho' := (held_intro c cc0_stg1_0 _) $$ Ho
  isplitl [Hw Hs Hb]
  · isplitl [Hw]; · iexact Hw
    isplitl [Hs] <;> iassumption
  isplitl [HO]
  · iexists W
    isplitr; · ipureintro; exact fun _ _ => Or.inl trivial
    iexact HO
  isplitl [Hx'] <;> iassumption

set_option maxRecDepth 4000 in
/-- The region's obligation on the body, on every device. -/
theorem body_obligation (c : Dev nD) : BodyObligation (dats (F := F) m ρ 0 c) (defs₀ (F := F)) 𝒱₀ () Set.univ := fun t => by
  rw [show t = t₀ from fin_N0 t]
  rw [bigSep_W0, bigSep_W0]
  simp only [owns_held]
  show bodyPre m ρ c ⊢ wp frame (wpE (defs₀ (F := F)) 𝒱₀ c none) Set.univ bodyProg (fun _ => bodyPost m ρ c)
  refine (bodyPre_in m ρ c).trans ?_
  show iprop(∃ K f₀ f₁ f₂ g, bodyIn m ρ K c f₀ f₁ f₂ g) ⊢ wp frame (wpE (defs₀ (F := F)) 𝒱₀ c none) Set.univ bodyProg (fun _ => bodyPost m ρ c)
  iintro ⟨%K, %f₀, %f₁, %f₂, %g, H⟩
  iapply ((sound_body m ρ K c f₀ f₁ f₂ g).trans (wp_mono _ _ _ fun _ => bodyOut_post m ρ c))
  iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owed d 0 0 0) c ∗ prngReg c (ρ c) ∗ given m ρ c)
      ⊢ |={Set.univ}=> iprop(start m ρ c ∗ emp) := by
  unfold given dealt placed
  iintro ⟨-, Hlev, Hcr, -, ⟨%K, HC⟩, ⟨Hpb, Hp₀, Hp₁, Hp₂, Hp₃⟩, Htb, Hs₀, Hr₁, Hs₂, Hr₃⟩
  ihave Hc := (credits (F := F) c) $$ Hcr
  icases Hc with ⟨Hcb, Hc₁, Hc₃⟩
  imodintro
  unfold start barW mid late ctx
  isplitl
  · isplitl [HC Hlev]
    · iexists K
      isplitl [HC] <;> iassumption
    isplitl [Htb]; · iexact Htb
    isplitl [Hcb Hpb]
    · isplitl [Hcb] <;> iassumption
    isplitl [Hs₀ Hr₁ Hp₀ Hp₁ Hc₁]
    · isplitl [Hs₀]; · iexact Hs₀
      isplitl [Hr₁]; · iexact Hr₁
      isplitl [Hp₀]; · iexact Hp₀
      isplitl [Hp₁] <;> iassumption
    isplitl [Hs₂]; · iexact Hs₂
    isplitl [Hr₃]; · iexact Hr₃
    isplitl [Hp₂]; · iexact Hp₂
    isplitl [Hp₃] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before whP
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = afterB m ρ c from rfl, scopedRest0_eq, own_sems, unscoped_sems]
  unfold afterB whP
  iintro ⟨⟨H₀, H₁, H₂⟩, Hs, Hb⟩
  isplitl [Hb]; · iexact Hb
  isplitl [Hs]; · iexact Hs
  isplitl [H₀]; · iexists (stageC m ρ c); iexact H₀
  isplitl [H₁]; · iexists (rsC m ρ c); iexact H₁
  iexists (agC m ρ); iexact H₂

/-- The waits on the staging copies are at level zero. -/
theorem lv_stage (c : Dev nD) (w : Fin cfg0.W) (s) : lv ((c : Thread nD τ), .dma ((cfg0.win w).sem s)) () ≤ 0 := by
  have h : ∀ (w : Fin cfg0.W) (s), levOf (kindOf (.dma ((cfg0.win w).sem s))) = 0 := by decide
  exact (h w s).le

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 0 0 0 (lv_stage c w s) (.inl (by decide)) (.inl (by decide)) (.inl (by decide))
    · show (levAts L lv : sProp 𝕄) ⊢ MayWait (c : Thread nD τ) _ () 0
      rw [← owed_none c]
      exact mayWait c _ 7 7 7 0 (lv_stage c w s) (.inr rfl) (.inr rfl) (.inr rfl)

/-! ## The run -/

/-- The window's array on device `c` at the end. -/
def finalA (c : Dev nD) (w : Fin cfg0.W) : Buf (Elt F) ((cfg0.win w).arr.view.loc (c : Thread nD τ)) := (dats m ρ 0 c).arrAt w cfg0.N

set_option maxRecDepth 8000 in
/-- From any memory with zero counters, every weakly fair execution of the eight devices terminates with every window's array at its
    final contents and every counter at zero. -/
theorem run_windows : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed d 0 0 0) (howed₀ := fun _ => rfl) (howedN := fun _ => rfl)
    (L := L) (lv := lv) (hL := L_of_ne) (hwaits := waits m ρ)
    (G := funded m ρ) (G' := given m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := deal_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block's array ends as it was; -/
theorem final_x (c : Dev nD) : finalA m ρ c (0 : Fin 2) = m ((c : Thread nD τ).loc main_arg0) :=
  (dats (F := F) m ρ 0 c).arrAt_in (0 : Fin 2) rfl _

set_option maxRecDepth 8000 in
/-- the result's array ends holding the sum. -/
theorem final_out (c : Dev nD) : finalA m ρ c (1 : Fin 2) = outC m ρ := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_1.blk (0 : Fin 1)).view.read (Elt F) (finalA m ρ c (1 : Fin 2)) = outC m ρ := by
    unfold finalA
    rw [show cfg0.N = ((0 : Fin 1) : Fin cfg0.N).val + 1 from rfl, (dats m ρ 0 c).arrAt_succ (1 : Fin 2) (0 : Fin 1)]
    rw [if_pos (flush0_1 (0 : Fin 1))]
    exact View.read_write_univ _ _
  exact (hr _).symm.trans ho

/-- Every weakly fair execution of the eight devices terminates with each device's result holding the sum, its block as it was and
    every counter at zero. -/
theorem run_main : θ_run defs (onTc (τ := τ) (main (F := F))) ⟨m, fun _ => 0, ρ⟩ (fun r =>
    (∀ c : Dev nD, r.2.mem ((c : Thread nD τ).loc main_v1) = outC m ρ
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (final_out m ρ c), (h.1 c (0 : Fin 2)).trans (final_x m ρ c)⟩, h.2⟩)
    (run_windows m ρ)

end Cert.AllReduce

end
-- ==== Proof.SameText.lean ====
/-
# 01_k: one text

The kernel is printed twice, once for the machine's float values and once for the ideal ones, with the same text. What
is proved of the second for any float values is carried over to the first.
-/
module

public import proofs.«01_k».proof.Proof.Launch
public import proofs.«01_k».proof.Proof.Gen.Kernel

@[expose] public section

noncomputable section

namespace Cert.AllReduce

open Idealize.ShloMosaic Idealize.ShloMosaic.TcCoe Idealize.SL.Sem

variable {F : FTy → Type} [FloatOps F]

/-- The two bodies are one; -/
theorem body_same : @Cert.Kernel.cc0_body F _ _ = @Cert.KernelIdeal.cc0_body F _ _ := rfl

/-- so are the tables of bodies, -/
theorem defs₀_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- and the tables with the launch's own labels. -/
theorem defs_same : Cert.Kernel.defs (F := F) = Cert.KernelIdeal.defs (F := F) :=
  congrArg (Pipeline.defs (Cert.Kernel.pcfgs (F := F))) defs₀_same

/-- The run of the kernel as printed for the machine: its block and every counter end as they were. -/
theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD, r.2.mem ((c : Thread Cert.Kernel.nD Cert.Kernel.τ).loc Cert.Kernel.main_arg0)
          = m ((c : Thread Cert.Kernel.nD Cert.Kernel.τ).loc Cert.Kernel.main_arg0))
        ∧ r.2.sem = fun _ => 0) := by
  rw [defs_same]
  exact (θ_run Cert.KernelIdeal.defs _ _).mono (fun _ h => ⟨fun c => (h.1 c).2, h.2⟩) (run_main (F := F) m ρ)

end Cert.AllReduce

end
-- ==== Proof.Value.lean ====
/-
# 01_k: the sum

At the ideal values the result is, at `(i, j)`, the sum over the eight devices of element `(i, j)` of their blocks, and
so is the reference's.
-/
module

public import proofs.«01_k».proof.Proof.Launch
public import proofs.«01_k».proof.Proof.Gen.ReferenceIdeal.Run
public import Idealize.ShloMosaic.Lib.IdealHost
public import Idealize.ShloMosaic.Lib.Pointwise
public import Idealize.ShloMosaic.Lib.Layout

@[expose] public section

noncomputable section

namespace Cert.AllReduce

open Cert.KernelIdeal Cert.KernelIdeal.Gen

open Idealize.ShloMosaic
open Idealize.ShloMosaic.TcCoe

variable (m : (ℓ : Loc nD τ sig) → Buf (Elt Ideal) ℓ) (ρ : Dev nD → PrngReg)

/-- A block's element `(0, j 0, j 1)`. -/
def unitIx (j : S256x256.Idx) : S1x256x256.Idx := Fin.cons ⟨0, Nat.one_pos⟩ j

/-- Device `r`'s element `j` in the eight blocks stacked. -/
def stackIx (r : Fin 8) (j : S256x256.Idx) : Cert.ReferenceIdeal.S8x256x256.Idx := fun
  | ⟨0, _⟩ => r
  | ⟨1, _⟩ => ⟨(j 0).val, (j 0).isLt⟩
  | ⟨2, _⟩ => ⟨(j 1).val, (j 1).isLt⟩

/-- The staged block is the device's block of `x`. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- The staging buffer is that block without its leading unit axis. -/
theorem stageC_apply (c : Dev nD) (j : S256x256.Idx) : stageC m ρ c j = m ((c : Thread nD τ).loc main_arg0) (unitIx j) := by
  unfold stageC k0_pay2
  rw [xstg_eq]
  refine (congrFun (shapeCast_self (s := S256x256) _ _) j).trans ?_
  exact shapeCast_dropUnit_apply ![256, 256] _ _ j

/-- A device's sum of the eight rows it received. -/
theorem pay4_apply (v : Vec Ideal S8x32x256 .bf16) (x : S1x32x256.Idx) :
    k0_pay4 v x = (∑ r : Fin 8, (v (ix3 r ⟨(x 1).val, (x 1).isLt⟩ ⟨(x 2).val, (x 2).isLt⟩) : EReal) : EReal) := by
  unfold k0_pay4
  refine (congrFun (shapeCast_self (s := S1x32x256) _ _) x).trans ?_
  refine (shapeCast_addUnit_apply ![32, 256] _ _ x).trans ?_
  exact Ideal.reduceAdd_r3_a0 reduces_S8x32x256_S32x256 v (fun a => x a.succ)

/-- Rows `32 q + a` of the result are row `a` of entry `q` of the second buffer. -/
theorem pay1_apply (v : Vec Ideal S8x32x256 .bf16) (j : S256x256.Idx) (i : S8x32x256.Idx) (h0 : (j 0).val = 32 * (i 0).val + (i 1).val)
    (h1 : (j 1).val = (i 2).val) : k0_pay1 v j = v i := by
  unfold k0_pay1
  refine shapeCast_apply (s := S8x32x256) (t := S256x256) v _ j i ?_
  refine (Shape.rowMajor_val_three (d := ![8, 32, 256]) i).trans (Eq.trans ?_ (Shape.rowMajor_val_two (d := ![256, 256]) j).symm)
  show ((i 0).val * 32 + (i 1).val) * 256 + (i 2).val = (j 0).val * 256 + (j 1).val
  omega

/-- The kernel's result at `j`. -/
theorem outC_apply (j : S256x256.Idx) : outC m ρ j = (∑ r : Fin 8, (m (((r : Dev nD) : Thread nD τ).loc main_arg0) (unitIx j) : EReal) : EReal) := by
  have hj : (j 0).val < 256 := (j 0).isLt
  have hk : (j 1).val < 256 := (j 1).isLt
  unfold outC
  refine (pay1_apply (agC m ρ) j (ix3 ⟨(j 0).val / 32, by omega⟩ ⟨(j 0).val % 32, by omega⟩ ⟨(j 1).val, hk⟩)
    (by show (j 0).val = 32 * ((j 0).val / 32) + (j 0).val % 32; omega) rfl).trans ?_
  refine (pay4_apply _ _).trans (Finset.sum_congr rfl fun r _ => ?_)
  refine Eq.trans ?_ (stageC_apply m ρ r j)
  exact (rsC_of m ρ _ r _ j rfl (by show (j 0).val = 32 * ((j 0).val / 32) + (j 0).val % 32; omega) rfl).symm

/-- The reference's result at `j`. -/
theorem ref_apply (x : Cert.ReferenceIdeal.S8x256x256.Idx → Elt Ideal .bf16) (j : S256x256.Idx) :
    (extf .f32 (truncf .bf16 (Host.reduceAdd (extf .f32 (x : FVec Ideal Cert.ReferenceIdeal.S8x256x256 .bf16) Cert.ReferenceIdeal.Gen.bitsLt_bf16_f32)
      (constant Cert.ReferenceIdeal.S_ .f32 0x00000000#32)
      Cert.ReferenceIdeal.Gen.reducesTo_S8x256x256_S256x256_d0 Cert.ReferenceIdeal.Gen.h_S_) Cert.ReferenceIdeal.Gen.bitsLt_bf16_f32)
      Cert.ReferenceIdeal.Gen.bitsLt_bf16_f32 : FVec Ideal S256x256 .f32) j = (∑ r : Fin 8, (x (stackIx r j) : EReal) : EReal) := by
  refine (Ideal.hostReduceAdd_r3_a0 Cert.ReferenceIdeal.Gen.reducesTo_S8x256x256_S256x256_d0 x (Ideal.ofBits .f32 0x00000000#32) j).trans ?_
  rw [Ideal.ofBits_zero_f32, zero_add]
  exact Finset.sum_congr rfl fun r _ => congrArg x (Shape.idx3_ext (d := ![8, 256, 256]) rfl rfl rfl)

/-- Where each device holds its block of `x`, the kernel's result is the reference's. -/
theorem out_eq (x : Cert.ReferenceIdeal.S8x256x256.Idx → Elt Ideal .bf16)
    (hx : ∀ c : Dev nD, m ((c : Thread nD τ).loc main_arg0) = Layout.block ⟨3, ![1, 256, 256]⟩ ⟨3, ![8, 256, 256]⟩ 0 8 c x) :
    (extf .f32 (truncf .bf16 (Host.reduceAdd (extf .f32 (x : FVec Ideal Cert.ReferenceIdeal.S8x256x256 .bf16) Cert.ReferenceIdeal.Gen.bitsLt_bf16_f32)
      (constant Cert.ReferenceIdeal.S_ .f32 0x00000000#32)
      Cert.ReferenceIdeal.Gen.reducesTo_S8x256x256_S256x256_d0 Cert.ReferenceIdeal.Gen.h_S_) Cert.ReferenceIdeal.Gen.bitsLt_bf16_f32)
      Cert.ReferenceIdeal.Gen.bitsLt_bf16_f32 : FVec Ideal S256x256 .f32) = outC m ρ := by
  funext j
  refine (ref_apply x j).trans (Eq.symm ((outC_apply m ρ j).trans (Finset.sum_congr rfl fun r _ => ?_)))
  refine (congrFun (hx r) (unitIx j)).trans ?_
  refine congrArg x (Shape.idx3_ext (d := ![8, 256, 256]) ?_ rfl rfl)
  show r.val * 1 + 0 = r.val
  omega

end Cert.AllReduce

end
-- ==== Proof.lean ====
/-
# 01_k: the claims

The eight-device sum runs and leaves its block and every counter as they were, for any float values; at the ideal
values its result is the reference's. The run is proved in `Proof/Launch.lean`, the sum in `Proof/Value.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.SameText
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel's text, at the machine's float values. -/
theorem frame_kernel : Cert.quiescent_Kernel (hKernel := Cert.Kernel.Gen.facts) := fun m ρ _ =>
  Cert.AllReduce.run_kernel (F := Bits) m ρ

/-- The same at the ideal values. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.AllReduce.run_main (F := Ideal) m ρ)

/-- The reference has no counter. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is the reference's. -/
theorem algebraic : Cert.algebraic_KernelIdeal_ReferenceIdeal (hKernelIdeal := Cert.KernelIdeal.Gen.facts)
    (hReferenceIdeal := Cert.ReferenceIdeal.Gen.facts) := fun m ρ m' ρ' _ hx =>
  ⟨Cert.AllReduce.outC m ρ,
    (θ_run Cert.KernelIdeal.defs _ _).mono (fun _ h => h.1) (Cert.AllReduce.run_main (F := Ideal) m ρ),
    (θ_run Cert.ReferenceIdeal.defs _ _).mono (fun _ h => ⟨(h 0).1.trans (Cert.AllReduce.out_eq m ρ _ hx), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
